-- ==== Defs.lean ====
def Pre_Values [hPre_fits : Cert.Pre_fits.Facts] (m : (ℓ : Loc Cert.Values.nD Cert.Values.τ Cert.Values.sig) → Buf (Elt Bits) ℓ) : Prop :=
  ∀ c : Dev Cert.Values.nD,
    (Cert.Pre_fits.fn (F := Bits) (m ((c.tc : Thread Cert.Values.nD Cert.Values.τ).loc Cert.Values.main_arg0)) (m ((c.tc : Thread Cert.Values.nD Cert.Values.τ).loc Cert.Values.main_arg1)) (m ((c.tc : Thread Cert.Values.nD Cert.Values.τ).loc Cert.Values.main_arg2)) (m ((c.tc : Thread Cert.Values.nD Cert.Values.τ).loc Cert.Values.main_arg3)) (m ((c.tc : Thread Cert.Values.nD Cert.Values.τ).loc Cert.Values.main_arg4)) (m ((c.tc : Thread Cert.Values.nD Cert.Values.τ).loc Cert.Values.main_arg5)) (m ((c.tc : Thread Cert.Values.nD Cert.Values.τ).loc Cert.Values.main_arg6))) = (fun _ => 1#1)

def Pre_ValuesIdeal [hPre_fits : Cert.Pre_fits.Facts] (m : (ℓ : Loc Cert.ValuesIdeal.nD Cert.ValuesIdeal.τ Cert.ValuesIdeal.sig) → Buf (Elt Ideal) ℓ) : Prop :=
  ∀ c : Dev Cert.ValuesIdeal.nD,
    (Cert.Pre_fits.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg3)) (m ((c.tc : Thread Cert.ValuesIdeal.nD Cert.ValuesIdeal.τ).loc Cert.ValuesIdeal.main_arg4)) (m ((c.tc : Thread Cert.ValuesIdeal.nD Cert.ValuesIdeal.τ).loc Cert.ValuesIdeal.main_arg5)) (m ((c.tc : Thread Cert.ValuesIdeal.nD Cert.ValuesIdeal.τ).loc Cert.ValuesIdeal.main_arg6))) = (fun _ => 1#1)

def Pre_ValuesIdeal_finite [hPre_finite : Cert.Pre_finite.Facts] (m : (ℓ : Loc Cert.ValuesIdeal.nD Cert.ValuesIdeal.τ Cert.ValuesIdeal.sig) → Buf (Elt Ideal) ℓ) : Prop :=
  ∀ c : Dev Cert.ValuesIdeal.nD,
    (Cert.Pre_finite.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg3)) (m ((c.tc : Thread Cert.ValuesIdeal.nD Cert.ValuesIdeal.τ).loc Cert.ValuesIdeal.main_arg4)) (m ((c.tc : Thread Cert.ValuesIdeal.nD Cert.ValuesIdeal.τ).loc Cert.ValuesIdeal.main_arg5)) (m ((c.tc : Thread Cert.ValuesIdeal.nD Cert.ValuesIdeal.τ).loc Cert.ValuesIdeal.main_arg6))) = (fun _ => 1#1)

def Pre_ValuesRefIdeal (m : (ℓ : Loc Cert.ValuesRefIdeal.nD Cert.ValuesRefIdeal.τ Cert.ValuesRefIdeal.sig) → Buf (Elt Ideal) ℓ) : Prop :=
  True

def Pre_ValuesRefIdeal_finite [hPre_finite : Cert.Pre_finite.Facts] (m : (ℓ : Loc Cert.ValuesRefIdeal.nD Cert.ValuesRefIdeal.τ Cert.ValuesRefIdeal.sig) → Buf (Elt Ideal) ℓ) : Prop :=
  ∀ c : Dev Cert.ValuesRefIdeal.nD,
    (Cert.Pre_finite.fn (F := Ideal) (m ((c.tc : Thread Cert.ValuesRefIdeal.nD Cert.ValuesRefIdeal.τ).loc Cert.ValuesRefIdeal.main_arg0)) (m ((c.tc : Thread Cert.ValuesRefIdeal.nD Cert.ValuesRefIdeal.τ).loc Cert.ValuesRefIdeal.main_arg1)) (m ((c.tc : Thread Cert.ValuesRefIdeal.nD Cert.ValuesRefIdeal.τ).loc Cert.ValuesRefIdeal.main_arg2)) (m ((c.tc : Thread Cert.ValuesRefIdeal.nD Cert.ValuesRefIdeal.τ).loc Cert.ValuesRefIdeal.main_arg3)) (m ((c.tc : Thread Cert.ValuesRefIdeal.nD Cert.ValuesRefIdeal.τ).loc Cert.ValuesRefIdeal.main_arg4)) (m ((c.tc : Thread Cert.ValuesRefIdeal.nD Cert.ValuesRefIdeal.τ).loc Cert.ValuesRefIdeal.main_arg5)) (m ((c.tc : Thread Cert.ValuesRefIdeal.nD Cert.ValuesRefIdeal.τ).loc Cert.ValuesRefIdeal.main_arg6))) = (fun _ => 1#1)

def quiescent_Values [hValues : Cert.Values.Facts] [hPre_fits : Cert.Pre_fits.Facts] : Prop :=
  ∀ (m : (ℓ : Loc Cert.Values.nD Cert.Values.τ Cert.Values.sig) → Buf (Elt Bits) ℓ) (g : Dev Cert.Values.nD → PrngReg), Pre_Values m →
    θ_run (Cert.Values.defs (F := Bits)) (onTc (τ := Cert.Values.τ) (Cert.Values.main (F := Bits))) ⟨m, fun _ => 0, g⟩ (fun r => (∀ c : Dev Cert.Values.nD,
      r.2.mem ((c.tc : Thread Cert.Values.nD Cert.Values.τ).loc Cert.Values.main_arg0) = m ((c.tc : Thread Cert.Values.nD Cert.Values.τ).loc Cert.Values.main_arg0)
      ∧ r.2.mem ((c.tc : Thread Cert.Values.nD Cert.Values.τ).loc Cert.Values.main_arg1) = m ((c.tc : Thread Cert.Values.nD Cert.Values.τ).loc Cert.Values.main_arg1)
      ∧ r.2.mem ((c.tc : Thread Cert.Values.nD Cert.Values.τ).loc Cert.Values.main_arg2) = m ((c.tc : Thread Cert.Values.nD Cert.Values.τ).loc Cert.Values.main_arg2)
      ∧ r.2.mem ((c.tc : Thread Cert.Values.nD Cert.Values.τ).loc Cert.Values.main_arg3) = m ((c.tc : Thread Cert.Values.nD Cert.Values.τ).loc Cert.Values.main_arg3)
      ∧ r.2.mem ((c.tc : Thread Cert.Values.nD Cert.Values.τ).loc Cert.Values.main_arg4) = m ((c.tc : Thread Cert.Values.nD Cert.Values.τ).loc Cert.Values.main_arg4)
      ∧ r.2.mem ((c.tc : Thread Cert.Values.nD Cert.Values.τ).loc Cert.Values.main_arg5) = m ((c.tc : Thread Cert.Values.nD Cert.Values.τ).loc Cert.Values.main_arg5)
      ∧ r.2.mem ((c.tc : Thread Cert.Values.nD Cert.Values.τ).loc Cert.Values.main_arg6) = m ((c.tc : Thread Cert.Values.nD Cert.Values.τ).loc Cert.Values.main_arg6))
      ∧ r.2.sem = fun _ => 0)

def quiescent_ValuesIdeal [hValuesIdeal : Cert.ValuesIdeal.Facts] [hPre_fits : Cert.Pre_fits.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
      ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
      ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6))
      ∧ r.2.sem = fun _ => 0)

def quiescent_ValuesIdeal_pre_finite [hValuesIdeal : Cert.ValuesIdeal.Facts] [hPre_finite : Cert.Pre_finite.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal_finite m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
      ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
      ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
      ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
      ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
      ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6))
      ∧ r.2.sem = fun _ => 0)

def quiescent_ValuesRefIdeal [hValuesRefIdeal : Cert.ValuesRefIdeal.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4)
      ∧ r.2.mem ((c.tc : Thread Cert.ValuesRefIdeal.nD Cert.ValuesRefIdeal.τ).loc Cert.ValuesRefIdeal.main_arg5) = m ((c.tc : Thread Cert.ValuesRefIdeal.nD Cert.ValuesRefIdeal.τ).loc Cert.ValuesRefIdeal.main_arg5)
      ∧ r.2.mem ((c.tc : Thread Cert.ValuesRefIdeal.nD Cert.ValuesRefIdeal.τ).loc Cert.ValuesRefIdeal.main_arg6) = m ((c.tc : Thread Cert.ValuesRefIdeal.nD Cert.ValuesRefIdeal.τ).loc Cert.ValuesRefIdeal.main_arg6))
      ∧ r.2.sem = fun _ => 0)

def quiescent_ValuesRefIdeal_pre_finite [hValuesRefIdeal : Cert.ValuesRefIdeal.Facts] [hPre_finite : Cert.Pre_finite.Facts] : Prop :=
  ∀ (m : (ℓ : Loc Cert.ValuesRefIdeal.nD Cert.ValuesRefIdeal.τ Cert.ValuesRefIdeal.sig) → Buf (Elt Ideal) ℓ) (g : Dev Cert.ValuesRefIdeal.nD → PrngReg), Pre_ValuesRefIdeal_finite m →
    θ_run (Cert.ValuesRefIdeal.defs (F := Ideal)) (onTc (τ := Cert.ValuesRefIdeal.τ) (Cert.ValuesRefIdeal.main (F := Ideal))) ⟨m, fun _ => 0, g⟩ (fun r => (∀ c : Dev Cert.ValuesRefIdeal.nD,
      r.2.mem ((c.tc : Thread Cert.ValuesRefIdeal.nD Cert.ValuesRefIdeal.τ).loc Cert.ValuesRefIdeal.main_arg0) = m ((c.tc : Thread Cert.ValuesRefIdeal.nD Cert.ValuesRefIdeal.τ).loc Cert.ValuesRefIdeal.main_arg0)
      ∧ r.2.mem ((c.tc : Thread Cert.ValuesRefIdeal.nD Cert.ValuesRefIdeal.τ).loc Cert.ValuesRefIdeal.main_arg1) = m ((c.tc : Thread Cert.ValuesRefIdeal.nD Cert.ValuesRefIdeal.τ).loc Cert.ValuesRefIdeal.main_arg1)
      ∧ r.2.mem ((c.tc : Thread Cert.ValuesRefIdeal.nD Cert.ValuesRefIdeal.τ).loc Cert.ValuesRefIdeal.main_arg2) = m ((c.tc : Thread Cert.ValuesRefIdeal.nD Cert.ValuesRefIdeal.τ).loc Cert.ValuesRefIdeal.main_arg2)
      ∧ r.2.mem ((c.tc : Thread Cert.ValuesRefIdeal.nD Cert.ValuesRefIdeal.τ).loc Cert.ValuesRefIdeal.main_arg3) = m ((c.tc : Thread Cert.ValuesRefIdeal.nD Cert.ValuesRefIdeal.τ).loc Cert.ValuesRefIdeal.main_arg3)
      ∧ r.2.mem ((c.tc : Thread Cert.ValuesRefIdeal.nD Cert.ValuesRefIdeal.τ).loc Cert.ValuesRefIdeal.main_arg4) = m ((c.tc : Thread Cert.ValuesRefIdeal.nD Cert.ValuesRefIdeal.τ).loc Cert.ValuesRefIdeal.main_arg4)
      ∧ r.2.mem ((c.tc : Thread Cert.ValuesRefIdeal.nD Cert.ValuesRefIdeal.τ).loc Cert.ValuesRefIdeal.main_arg5) = m ((c.tc : Thread Cert.ValuesRefIdeal.nD Cert.ValuesRefIdeal.τ).loc Cert.ValuesRefIdeal.main_arg5)
      ∧ r.2.mem ((c.tc : Thread Cert.ValuesRefIdeal.nD Cert.ValuesRefIdeal.τ).loc Cert.ValuesRefIdeal.main_arg6) = m ((c.tc : Thread Cert.ValuesRefIdeal.nD Cert.ValuesRefIdeal.τ).loc Cert.ValuesRefIdeal.main_arg6))
      ∧ r.2.sem = fun _ => 0)

def preserves_Values_ValuesIdeal : Prop :=
  IdealRules.bf16_pair.BufferStatement Cert.ValuesIdeal.S8x8x2x5120 Cert.ValuesIdeal.S8x8x1x5120
  ∧ IdealRules.bf16_pair.BufferStatement Cert.ValuesIdeal.S15x8x2x5120 Cert.ValuesIdeal.S15x8x1x5120
  ∧ IdealRules.bf16_pair.Statement Cert.ValuesIdeal.S8x8x2x5120 Cert.ValuesIdeal.S8x8x1x5120
  ∧ IdealRules.bf16_pair.SelectZeroStatement Cert.ValuesIdeal.S8x8x5120
  ∧ IdealRules.bf16_pair.PackStatement Cert.ValuesIdeal.S8x5120
  ∧ IdealRules.bf16_pair.Statement Cert.ValuesIdeal.S8x1x2x5120 Cert.ValuesIdeal.S8x1x1x5120
  ∧ IdealRules.bf16_pair.Statement Cert.ValuesIdeal.S1x8x2x5120 Cert.ValuesIdeal.S1x8x1x5120
  ∧ IdealRules.bf16_pair.Statement Cert.ValuesIdeal.S1x1x2x1024 Cert.ValuesIdeal.S1x1x1x1024
  ∧ IdealRules.bf16_pair.Statement Cert.ValuesIdeal.S32x1024 Cert.ValuesIdeal.S16x1024
  ∧ IdealRules.bf16_pair.Statement Cert.ValuesIdeal.S1x8x2x1024 Cert.ValuesIdeal.S1x8x1x1024
  ∧ IdealRules.bf16_pair.Statement Cert.ValuesIdeal.S16x1024 Cert.ValuesIdeal.S8x1024

def algebraic_ValuesIdeal_ValuesRefIdeal_on_kept_pre_finite [hValuesIdeal : Cert.ValuesIdeal.Facts] [hValuesRefIdeal : Cert.ValuesRefIdeal.Facts] [hPre_finite : Cert.Pre_finite.Facts] [hOn_kept : Cert.On_kept.Facts] : Prop :=
  ∀ (m : (ℓ : Loc Cert.ValuesIdeal.nD Cert.ValuesIdeal.τ Cert.ValuesIdeal.sig) → Buf (Elt Ideal) ℓ) (g : Dev Cert.ValuesIdeal.nD → PrngReg)
    (m' : (ℓ : Loc Cert.ValuesRefIdeal.nD Cert.ValuesRefIdeal.τ Cert.ValuesRefIdeal.sig) → Buf (Elt Ideal) ℓ) (g' : Dev Cert.ValuesRefIdeal.nD → PrngReg), Pre_ValuesIdeal_finite m →
    (∀ c : Dev Cert.ValuesIdeal.nD,
      m' ((c.tc : Thread Cert.ValuesRefIdeal.nD Cert.ValuesRefIdeal.τ).loc Cert.ValuesRefIdeal.main_arg0) = m ((c.tc : Thread Cert.ValuesIdeal.nD Cert.ValuesIdeal.τ).loc Cert.ValuesIdeal.main_arg0)
      ∧ m' ((c.tc : Thread Cert.ValuesRefIdeal.nD Cert.ValuesRefIdeal.τ).loc Cert.ValuesRefIdeal.main_arg1) = m ((c.tc : Thread Cert.ValuesIdeal.nD Cert.ValuesIdeal.τ).loc Cert.ValuesIdeal.main_arg1)
      ∧ m' ((c.tc : Thread Cert.ValuesRefIdeal.nD Cert.ValuesRefIdeal.τ).loc Cert.ValuesRefIdeal.main_arg2) = m ((c.tc : Thread Cert.ValuesIdeal.nD Cert.ValuesIdeal.τ).loc Cert.ValuesIdeal.main_arg2)
      ∧ m' ((c.tc : Thread Cert.ValuesRefIdeal.nD Cert.ValuesRefIdeal.τ).loc Cert.ValuesRefIdeal.main_arg3) = m ((c.tc : Thread Cert.ValuesIdeal.nD Cert.ValuesIdeal.τ).loc Cert.ValuesIdeal.main_arg3)
      ∧ m' ((c.tc : Thread Cert.ValuesRefIdeal.nD Cert.ValuesRefIdeal.τ).loc Cert.ValuesRefIdeal.main_arg4) = m ((c.tc : Thread Cert.ValuesIdeal.nD Cert.ValuesIdeal.τ).loc Cert.ValuesIdeal.main_arg4)
      ∧ m' ((c.tc : Thread Cert.ValuesRefIdeal.nD Cert.ValuesRefIdeal.τ).loc Cert.ValuesRefIdeal.main_arg5) = m ((c.tc : Thread Cert.ValuesIdeal.nD Cert.ValuesIdeal.τ).loc Cert.ValuesIdeal.main_arg5)
      ∧ m' ((c.tc : Thread Cert.ValuesRefIdeal.nD Cert.ValuesRefIdeal.τ).loc Cert.ValuesRefIdeal.main_arg6) = m ((c.tc : Thread Cert.ValuesIdeal.nD Cert.ValuesIdeal.τ).loc Cert.ValuesIdeal.main_arg6)) →
    ∃ (v0 : (c : Dev Cert.ValuesIdeal.nD) → Buf (Elt Ideal) ((c.tc : Thread Cert.ValuesIdeal.nD Cert.ValuesIdeal.τ).loc Cert.ValuesIdeal.main_v10)),
      θ_run (Cert.ValuesIdeal.defs (F := Ideal)) (onTc (τ := Cert.ValuesIdeal.τ) (Cert.ValuesIdeal.main (F := Ideal))) ⟨m, fun _ => 0, g⟩ (fun r => ∀ c : Dev Cert.ValuesIdeal.nD,
          (∀ i : (⟨3, ![128, 16, 480]⟩ : Shape).Idx, (Cert.On_kept.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg3)) (m ((c.tc : Thread Cert.ValuesIdeal.nD Cert.ValuesIdeal.τ).loc Cert.ValuesIdeal.main_arg4)) (m ((c.tc : Thread Cert.ValuesIdeal.nD Cert.ValuesIdeal.τ).loc Cert.ValuesIdeal.main_arg5)) (m ((c.tc : Thread Cert.ValuesIdeal.nD Cert.ValuesIdeal.τ).loc Cert.ValuesIdeal.main_arg6))) i = 1#1 → r.2.mem ((c.tc : Thread Cert.ValuesIdeal.nD Cert.ValuesIdeal.τ).loc Cert.ValuesIdeal.main_v10) i = v0 c i)
          ∧ r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1)
          ∧ r.2.mem ((c.tc : Thread Cert.ValuesIdeal.nD Cert.ValuesIdeal.τ).loc Cert.ValuesIdeal.main_arg2) = m ((c.tc : Thread Cert.ValuesIdeal.nD Cert.ValuesIdeal.τ).loc Cert.ValuesIdeal.main_arg2)
          ∧ r.2.mem ((c.tc : Thread Cert.ValuesIdeal.nD Cert.ValuesIdeal.τ).loc Cert.ValuesIdeal.main_arg3) = m ((c.tc : Thread Cert.ValuesIdeal.nD Cert.ValuesIdeal.τ).loc Cert.ValuesIdeal.main_arg3)
          ∧ r.2.mem ((c.tc : Thread Cert.ValuesIdeal.nD Cert.ValuesIdeal.τ).loc Cert.ValuesIdeal.main_arg4) = m ((c.tc : Thread Cert.ValuesIdeal.nD Cert.ValuesIdeal.τ).loc Cert.ValuesIdeal.main_arg4)
          ∧ r.2.mem ((c.tc : Thread Cert.ValuesIdeal.nD Cert.ValuesIdeal.τ).loc Cert.ValuesIdeal.main_arg5) = m ((c.tc : Thread Cert.ValuesIdeal.nD Cert.ValuesIdeal.τ).loc Cert.ValuesIdeal.main_arg5)
          ∧ r.2.mem ((c.tc : Thread Cert.ValuesIdeal.nD Cert.ValuesIdeal.τ).loc Cert.ValuesIdeal.main_arg6) = m ((c.tc : Thread Cert.ValuesIdeal.nD Cert.ValuesIdeal.τ).loc Cert.ValuesIdeal.main_arg6))
      ∧ θ_run (Cert.ValuesRefIdeal.defs (F := Ideal)) (onTc (τ := Cert.ValuesRefIdeal.τ) (Cert.ValuesRefIdeal.main (F := Ideal))) ⟨m', fun _ => 0, g'⟩ (fun r => ∀ c : Dev Cert.ValuesRefIdeal.nD,
          (∀ i : (⟨3, ![128, 16, 480]⟩ : Shape).Idx, (Cert.On_kept.fn (F := Ideal) (m ((c.tc : Thread Cert.ValuesIdeal.nD Cert.ValuesIdeal.τ).loc Cert.ValuesIdeal.main_arg0)) (m ((c.tc : Thread Cert.ValuesIdeal.nD Cert.ValuesIdeal.τ).loc Cert.ValuesIdeal.main_arg1)) (m ((c.tc : Thread Cert.ValuesIdeal.nD Cert.ValuesIdeal.τ).loc Cert.ValuesIdeal.main_arg2)) (m ((c.tc : Thread Cert.ValuesIdeal.nD Cert.ValuesIdeal.τ).loc Cert.ValuesIdeal.main_arg3)) (m ((c.tc : Thread Cert.ValuesIdeal.nD Cert.ValuesIdeal.τ).loc Cert.ValuesIdeal.main_arg4)) (m ((c.tc : Thread Cert.ValuesIdeal.nD Cert.ValuesIdeal.τ).loc Cert.ValuesIdeal.main_arg5)) (m ((c.tc : Thread Cert.ValuesIdeal.nD Cert.ValuesIdeal.τ).loc Cert.ValuesIdeal.main_arg6))) i = 1#1 → r.2.mem ((c.tc : Thread Cert.ValuesRefIdeal.nD Cert.ValuesRefIdeal.τ).loc Cert.ValuesRefIdeal.main_v55) i = v0 c i)
          ∧ r.2.mem ((c.tc : Thread Cert.ValuesRefIdeal.nD Cert.ValuesRefIdeal.τ).loc Cert.ValuesRefIdeal.main_arg0) = m' ((c.tc : Thread Cert.ValuesRefIdeal.nD Cert.ValuesRefIdeal.τ).loc Cert.ValuesRefIdeal.main_arg0)
          ∧ r.2.mem ((c.tc : Thread Cert.ValuesRefIdeal.nD Cert.ValuesRefIdeal.τ).loc Cert.ValuesRefIdeal.main_arg1) = m' ((c.tc : Thread Cert.ValuesRefIdeal.nD Cert.ValuesRefIdeal.τ).loc Cert.ValuesRefIdeal.main_arg1)
          ∧ r.2.mem ((c.tc : Thread Cert.ValuesRefIdeal.nD Cert.ValuesRefIdeal.τ).loc Cert.ValuesRefIdeal.main_arg2) = m' ((c.tc : Thread Cert.ValuesRefIdeal.nD Cert.ValuesRefIdeal.τ).loc Cert.ValuesRefIdeal.main_arg2)
          ∧ r.2.mem ((c.tc : Thread Cert.ValuesRefIdeal.nD Cert.ValuesRefIdeal.τ).loc Cert.ValuesRefIdeal.main_arg3) = m' ((c.tc : Thread Cert.ValuesRefIdeal.nD Cert.ValuesRefIdeal.τ).loc Cert.ValuesRefIdeal.main_arg3)
          ∧ r.2.mem ((c.tc : Thread Cert.ValuesRefIdeal.nD Cert.ValuesRefIdeal.τ).loc Cert.ValuesRefIdeal.main_arg4) = m' ((c.tc : Thread Cert.ValuesRefIdeal.nD Cert.ValuesRefIdeal.τ).loc Cert.ValuesRefIdeal.main_arg4)
          ∧ r.2.mem ((c.tc : Thread Cert.ValuesRefIdeal.nD Cert.ValuesRefIdeal.τ).loc Cert.ValuesRefIdeal.main_arg5) = m' ((c.tc : Thread Cert.ValuesRefIdeal.nD Cert.ValuesRefIdeal.τ).loc Cert.ValuesRefIdeal.main_arg5)
          ∧ r.2.mem ((c.tc : Thread Cert.ValuesRefIdeal.nD Cert.ValuesRefIdeal.τ).loc Cert.ValuesRefIdeal.main_arg6) = m' ((c.tc : Thread Cert.ValuesRefIdeal.nD Cert.ValuesRefIdeal.τ).loc Cert.ValuesRefIdeal.main_arg6))

def Claim : Prop :=
  ∃ (hValues : Cert.Values.Facts) (hValuesIdeal : Cert.ValuesIdeal.Facts) (hValuesRefIdeal : Cert.ValuesRefIdeal.Facts) (hPre_fits : Cert.Pre_fits.Facts) (hPre_finite : Cert.Pre_finite.Facts) (hOn_kept : Cert.On_kept.Facts),
    quiescent_Values (hValues := hValues) (hPre_fits := hPre_fits)
    ∧ quiescent_ValuesIdeal (hValuesIdeal := hValuesIdeal) (hPre_fits := hPre_fits)
    ∧ quiescent_ValuesIdeal_pre_finite (hValuesIdeal := hValuesIdeal) (hPre_finite := hPre_finite)
    ∧ quiescent_ValuesRefIdeal (hValuesRefIdeal := hValuesRefIdeal)
    ∧ quiescent_ValuesRefIdeal_pre_finite (hValuesRefIdeal := hValuesRefIdeal) (hPre_finite := hPre_finite)
    ∧ preserves_Values_ValuesIdeal
    ∧ algebraic_ValuesIdeal_ValuesRefIdeal_on_kept_pre_finite (hValuesIdeal := hValuesIdeal) (hValuesRefIdeal := hValuesRefIdeal) (hPre_finite := hPre_finite) (hOn_kept := hOn_kept)
-- ==== On_kept.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S128x8x2x5x96 : Shape := ⟨5, ![128, 8, 2, 5, 96]⟩
abbrev S128x16x480 : Shape := ⟨3, ![128, 16, 480]⟩

class Facts : Prop where
  shapeCasts_S128x8x2x5x96_S128x16x480 : S128x8x2x5x96.ShapeCasts S128x16x480

variable [Facts]

def fn {F : FTy → Type} [FloatOps F] (main_arg0 : FVec F S128x1x960 .bf16) (main_arg1 : FVec F S128x1x5x96 .bf16) (main_arg2 : FVec F S128x1x5x96 .bf16) (main_arg3 : FVec F S10x128x5120 .f32) (main_arg4 : IVec S128x5120x5x96 8) (main_arg5 : FVec F S128x5120x5x3 .f32) (main_arg6 : IVec S128 32) : IVec S128x16x480 1 :=
  let main_v0 : IVec S128x8x2x5x96 32 := iotaInDim S128x8x2x5x96 32 1
  let main_v1 : IVec S128x8x2x5x96 32 := iotaInDim S128x8x2x5x96 32 3
  let main_v2 : IVec S128x8x2x5x96 1 := cmpi .eq main_v0 main_v1
  let main_v3 : IVec S128x16x480 1 := shapeCast S128x16x480 main_v2 shapeCasts_S128x8x2x5x96_S128x16x480
  main_v3
-- ==== Pre_finite.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S128x1x960 : S_.BroadcastsInDim S128x1x960 (![] : Fin 0 → Fin S128x1x960.rank)
  reducesTo_S128x1x960_S_d0_1_2 : S128x1x960.ReducesTo [0, 1, 2] S_
  bcast_S_S128x1x5x96 : S_.BroadcastsInDim S128x1x5x96 (![] : Fin 0 → Fin S128x1x5x96.rank)
  reducesTo_S128x1x5x96_S_d0_1_2_3 : S128x1x5x96.ReducesTo [0, 1, 2, 3] S_
  bcast_S_S10x128x5120 : S_.BroadcastsInDim S10x128x5120 (![] : Fin 0 → Fin S10x128x5120.rank)
  reducesTo_S10x128x5120_S_d0_1_2 : S10x128x5120.ReducesTo [0, 1, 2] S_

variable [Facts]

def fn_part1 {F : FTy → Type} [FloatOps F] (main_arg3 : FVec F S10x128x5120 .f32) (main_v2 : IVec S_ 1) (main_v9 : IVec S_ 1) (main_v12 : IVec S_ 1) (main_v14 : IVec S128x1x5x96 1) : IVec S_ 1 :=
  let main_c_7 : IVec S_ 1 := constantI S_ 1 1#1
  let main_v15 : IVec S_ 1 := (fun x v => Host.reduce IntOp.andi x v reducesTo_S128x1x5x96_S_d0_1_2_3 h_S_) main_v14 main_c_7
  let main_v16 : IVec S_ 1 := andi main_v12 main_v15
  let main_cst_8 : FVec F S_ .f32 := constant S_ .f32 0x7F800000#32
  let main_v17 : FVec F S10x128x5120 .f32 := broadcastInDim S10x128x5120 ![] bcast_S_S10x128x5120 main_cst_8
  let main_v18 : IVec S10x128x5120 1 := cmpf .olt main_arg3 main_v17
  let main_c_9 : IVec S_ 1 := constantI S_ 1 1#1
  let main_v19 : IVec S_ 1 := (fun x v => Host.reduce IntOp.andi x v reducesTo_S10x128x5120_S_d0_1_2 h_S_) main_v18 main_c_9
  let main_v20 : IVec S_ 1 := andi main_v2 main_v19
  let main_v21 : IVec S_ 1 := andi main_v9 main_v16
  let main_v22 : IVec S_ 1 := andi main_v20 main_v21
  main_v22

def fn {F : FTy → Type} [FloatOps F] (main_arg0 : FVec F S128x1x960 .bf16) (main_arg1 : FVec F S128x1x5x96 .bf16) (main_arg2 : FVec F S128x1x5x96 .bf16) (main_arg3 : FVec F S10x128x5120 .f32) (main_arg4 : IVec S128x5120x5x96 8) (main_arg5 : FVec F S128x5120x5x3 .f32) (main_arg6 : IVec S128 32) : IVec S_ 1 :=
  let main_c : IVec S_ 32 := constantI S_ 32 5120#32
  let main_v0 : IVec S128 32 := broadcastInDim S128 ![] bcast_S_S128 main_c
  let main_v1 : IVec S128 1 := cmpi .sle main_arg6 main_v0
  let main_c_0 : IVec S_ 1 := constantI S_ 1 1#1
  let main_v2 : IVec S_ 1 := (fun x v => Host.reduce IntOp.andi x v reducesTo_S128_S_d0 h_S_) main_v1 main_c_0
  let main_cst : FVec F S_ .bf16 := constant S_ .bf16 0x7F80#16
  let main_v3 : FVec F S128x1x960 .bf16 := broadcastInDim S128x1x960 ![] bcast_S_S128x1x960 main_cst
  let main_v4 : IVec S128x1x960 1 := cmpf .olt main_arg0 main_v3
  let main_c_1 : IVec S_ 1 := constantI S_ 1 1#1
  let main_v5 : IVec S_ 1 := (fun x v => Host.reduce IntOp.andi x v reducesTo_S128x1x960_S_d0_1_2 h_S_) main_v4 main_c_1
  let main_cst_2 : FVec F S_ .bf16 := constant S_ .bf16 0xFF80#16
  let main_v6 : FVec F S128x1x960 .bf16 := broadcastInDim S128x1x960 ![] bcast_S_S128x1x960 main_cst_2
  let main_v7 : IVec S128x1x960 1 := cmpf .ogt main_arg0 main_v6
  let main_c_3 : IVec S_ 1 := constantI S_ 1 1#1
  let main_v8 : IVec S_ 1 := (fun x v => Host.reduce IntOp.andi x v reducesTo_S128x1x960_S_d0_1_2 h_S_) main_v7 main_c_3
  let main_v9 : IVec S_ 1 := andi main_v5 main_v8
  let main_cst_4 : FVec F S_ .bf16 := constant S_ .bf16 0x7F80#16
  let main_v10 : FVec F S128x1x5x96 .bf16 := broadcastInDim S128x1x5x96 ![] bcast_S_S128x1x5x96 main_cst_4
  let main_v11 : IVec S128x1x5x96 1 := cmpf .olt main_arg1 main_v10
  let main_c_5 : IVec S_ 1 := constantI S_ 1 1#1
  let main_v12 : IVec S_ 1 := (fun x v => Host.reduce IntOp.andi x v reducesTo_S128x1x5x96_S_d0_1_2_3 h_S_) main_v11 main_c_5
  let main_cst_6 : FVec F S_ .bf16 := constant S_ .bf16 0xFF80#16
  let main_v13 : FVec F S128x1x5x96 .bf16 := broadcastInDim S128x1x5x96 ![] bcast_S_S128x1x5x96 main_cst_6
  let main_v14 : IVec S128x1x5x96 1 := cmpf .ogt main_arg1 main_v13
  fn_part1 (F := F) main_arg3 main_v2 main_v9 main_v12 main_v14
-- ==== Pre_fits.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x1x960 .bf16) (main_arg1 : FVec F S128x1x5x96 .bf16) (main_arg2 : FVec F S128x1x5x96 .bf16) (main_arg3 : FVec F S10x128x5120 .f32) (main_arg4 : IVec S128x5120x5x96 8) (main_arg5 : FVec F S128x5120x5x3 .f32) (main_arg6 : IVec S128 32) : IVec S_ 1 :=
  let main_c : IVec S_ 32 := constantI S_ 32 5120#32
  let main_v0 : IVec S128 32 := broadcastInDim S128 ![] bcast_S_S128 main_c
  let main_v1 : IVec S128 1 := cmpi .sle main_arg6 main_v0
  let main_c_0 : IVec S_ 1 := constantI S_ 1 1#1
  let main_v2 : IVec S_ 1 := (fun x v => Host.reduce IntOp.andi x v reducesTo_S128_S_d0 h_S_) main_v1 main_c_0
  main_v2
-- ==== Values.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S128x5x96x5120 : Shape := ⟨4, ![128, 5, 96, 5120]⟩
abbrev S128x480x5120 : Shape := ⟨3, ![128, 480, 5120]⟩
abbrev S5x3x128x5120 : Shape := ⟨4, ![5, 3, 128, 5120]⟩
abbrev S15x128x5120 : Shape := ⟨3, ![15, 128, 5120]⟩
abbrev S128x960 : Shape := ⟨2, ![128, 960]⟩
abbrev S128x480 : Shape := ⟨2, ![128, 480]⟩
abbrev S128x1 : Shape := ⟨2, ![128, 1]⟩
abbrev S128x128 : Shape := ⟨2, ![128, 128]⟩
abbrev S128x16x480 : Shape := ⟨3, ![128, 16, 480]⟩
abbrev S10x8x5120 : Shape := ⟨3, ![10, 8, 5120]⟩
abbrev S15x8x5120 : Shape := ⟨3, ![15, 8, 5120]⟩
abbrev S1x480x5120 : Shape := ⟨3, ![1, 480, 5120]⟩
abbrev S8x960 : Shape := ⟨2, ![8, 960]⟩
abbrev S8x480 : Shape := ⟨2, ![8, 480]⟩
abbrev S8x128 : Shape := ⟨2, ![8, 128]⟩
abbrev S1x16x480 : Shape := ⟨3, ![1, 16, 480]⟩
abbrev S8x8x5120 : Shape := ⟨3, ![8, 8, 5120]⟩
abbrev S8x16x128 : Shape := ⟨3, ![8, 16, 128]⟩
abbrev S480x16 : Shape := ⟨2, ![480, 16]⟩
abbrev S8x5120 : Shape := ⟨2, ![8, 5120]⟩
abbrev S8x1 : Shape := ⟨2, ![8, 1]⟩
abbrev S8x96 : Shape := ⟨2, ![8, 96]⟩
abbrev S8 : Shape := ⟨1, ![8]⟩
abbrev S1x8x5120 : Shape := ⟨3, ![1, 8, 5120]⟩
abbrev S8x1x128 : Shape := ⟨3, ![8, 1, 128]⟩
abbrev S8x1x5120 : Shape := ⟨3, ![8, 1, 5120]⟩
abbrev S1 : Shape := ⟨1, ![1]⟩
abbrev S1x32x1024 : Shape := ⟨3, ![1, 32, 1024]⟩
abbrev S32x1024 : Shape := ⟨2, ![32, 1024]⟩
abbrev S1x1x1024 : Shape := ⟨3, ![1, 1, 1024]⟩
abbrev S1x1024 : Shape := ⟨2, ![1, 1024]⟩
abbrev S16x1024 : Shape := ⟨2, ![16, 1024]⟩
abbrev S480x1024 : Shape := ⟨2, ![480, 1024]⟩
abbrev S1x8x1024 : Shape := ⟨3, ![1, 8, 1024]⟩
abbrev S8x1024 : Shape := ⟨2, ![8, 1024]⟩
abbrev S16x480 : Shape := ⟨2, ![16, 480]⟩
abbrev S1x480 : Shape := ⟨2, ![1, 480]⟩
abbrev S1x16x128 : Shape := ⟨3, ![1, 16, 128]⟩
abbrev S16x128 : Shape := ⟨2, ![16, 128]⟩
abbrev S16x1 : Shape := ⟨2, ![16, 1]⟩

abbrev nBuf : Space → Nat
  | .hbm => 17
  | .vmem => 20
  | .smem => 1
  | _ => 0

abbrev bufTy : (tb : Table) → Fin (tcTables nBuf tb) → BufTy
  | .hbm, ⟨0, _⟩ => ⟨S128x1x960, .bf16⟩
  | .hbm, ⟨1, _⟩ => ⟨S128x1x5x96, .bf16⟩
  | .hbm, ⟨2, _⟩ => ⟨S128x1x5x96, .bf16⟩
  | .hbm, ⟨3, _⟩ => ⟨S10x128x5120, .f32⟩
  | .hbm, ⟨4, _⟩ => ⟨S128x5120x5x96, .i8⟩
  | .hbm, ⟨5, _⟩ => ⟨S128x5120x5x3, .f32⟩
  | .hbm, ⟨6, _⟩ => ⟨S128x5x96x5120, .i8⟩
  | .hbm, ⟨7, _⟩ => ⟨S128x480x5120, .i8⟩
  | .hbm, ⟨8, _⟩ => ⟨S5x3x128x5120, .f32⟩
  | .hbm, ⟨9, _⟩ => ⟨S15x128x5120, .f32⟩
  | .hbm, ⟨10, _⟩ => ⟨S128x960, .bf16⟩
  | .hbm, ⟨11, _⟩ => ⟨S128x480, .bf16⟩
  | .hbm, ⟨12, _⟩ => ⟨S128x480, .bf16⟩
  | .hbm, ⟨13, _⟩ => ⟨S128x480, .f32⟩
  | .hbm, ⟨14, _⟩ => ⟨S128x1, .i32⟩
  | .hbm, ⟨15, _⟩ => ⟨S128x128, .i32⟩
  | .hbm, ⟨16, _⟩ => ⟨S128x16x480, .f32⟩
  | .local _ .vmem, ⟨0, _⟩ => ⟨S10x8x5120, .f32⟩
  | .local _ .vmem, ⟨1, _⟩ => ⟨S10x8x5120, .f32⟩
  | .local _ .vmem, ⟨2, _⟩ => ⟨S15x8x5120, .f32⟩
  | .local _ .vmem, ⟨3, _⟩ => ⟨S15x8x5120, .f32⟩
  | .local _ .vmem, ⟨4, _⟩ => ⟨S1x480x5120, .i8⟩
  | .local _ .vmem, ⟨5, _⟩ => ⟨S1x480x5120, .i8⟩
  | .local _ .vmem, ⟨6, _⟩ => ⟨S8x960, .bf16⟩
  | .local _ .vmem, ⟨7, _⟩ => ⟨S8x960, .bf16⟩
  | .local _ .vmem, ⟨8, _⟩ => ⟨S8x480, .bf16⟩
  | .local _ .vmem, ⟨9, _⟩ => ⟨S8x480, .bf16⟩
  | .local _ .vmem, ⟨10, _⟩ => ⟨S8x480, .f32⟩
  | .local _ .vmem, ⟨11, _⟩ => ⟨S8x480, .f32⟩
  | .local _ .vmem, ⟨12, _⟩ => ⟨S8x128, .i32⟩
  | .local _ .vmem, ⟨13, _⟩ => ⟨S8x128, .i32⟩
  | .local _ .vmem, ⟨14, _⟩ => ⟨S1x16x480, .f32⟩
  | .local _ .vmem, ⟨15, _⟩ => ⟨S1x16x480, .f32⟩
  | .local _ .vmem, ⟨16, _⟩ => ⟨S8x8x5120, .i32⟩
  | .local _ .vmem, ⟨17, _⟩ => ⟨S15x8x5120, .i32⟩
  | .local _ .vmem, ⟨18, _⟩ => ⟨S8x16x128, .f32⟩
  | .local _ .vmem, ⟨19, _⟩ => ⟨S480x16, .f32⟩
  | .local _ .smem, ⟨0, _⟩ => ⟨S128, .i32⟩
  | _, _ => ⟨S128x1x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![16, 8], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v12 : BitVec 32 := Scalar.muli arg0 c8_i32
  let arg1 : BitVec 32 := BitVec.ofNat 32 (i 1).val
  let v13 : BitVec 32 := Scalar.addi v12 arg1
  let v14 : Index := Scalar.indexCast v13
  ![v14.toNat]
@[reducible] def k0_t1_loop (v15 : BitVec 32) : Scf.Loop 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_15 : BitVec 32 := 1#32
  ⟨c0_i32_13, v39, c1_i32_15⟩

def k0_mult1 (v15 : BitVec 32) (k0_t1 : Fin (k0_t1_loop v15).trips) : BitVec 32 :=
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  v56
def k0_off2 (v15 : BitVec 32) (k0_t1 : Fin (k0_t1_loop v15).trips) : Fin 3 → Nat :=
  let c0_26 : Index := 0#32
  let c0_27 : Index := 0#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v58 : Index := Scalar.indexCast v57
  ![0, 0, v58.toNat]
def k0_off3 (i : grid0.Coords) (v15 : BitVec 32) (k0_t1 : Fin (k0_t1_loop v15).trips) : Fin 3 → Nat :=
  let c0_28 : Index := 0#32
  let arg1 : BitVec 32 := BitVec.ofNat 32 (i 1).val
  let v62 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v63 : Index := Scalar.indexCast v57
  ![0, v62.toNat, v63.toNat]
def k0_off4 (v15 : BitVec 32) (k0_t1 : Fin (k0_t1_loop v15).trips) : Fin 3 → Nat :=
  let c0_29 : Index := 0#32
  let c32 : Index := 32#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v69 : Index := Scalar.indexCast v57
  ![0, 32, v69.toNat]
def k0_off5 (i : grid0.Coords) (v15 : BitVec 32) (k0_t1 : Fin (k0_t1_loop v15).trips) : Fin 3 → Nat :=
  let c1 : Index := 1#32
  let arg1 : BitVec 32 := BitVec.ofNat 32 (i 1).val
  let v73 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v74 : Index := Scalar.indexCast v57
  ![1, v73.toNat, v74.toNat]
def k0_off6 (v15 : BitVec 32) (k0_t1 : Fin (k0_t1_loop v15).trips) : Fin 3 → Nat :=
  let c0_30 : Index := 0#32
  let c64 : Index := 64#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v80 : Index := Scalar.indexCast v57
  ![0, 64, v80.toNat]
def k0_off7 (i : grid0.Coords) (v15 : BitVec 32) (k0_t1 : Fin (k0_t1_loop v15).trips) : Fin 3 → Nat :=
  let c2 : Index := 2#32
  let arg1 : BitVec 32 := BitVec.ofNat 32 (i 1).val
  let v84 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v85 : Index := Scalar.indexCast v57
  ![2, v84.toNat, v85.toNat]
def k0_off8 (v15 : BitVec 32) (k0_t1 : Fin (k0_t1_loop v15).trips) : Fin 3 → Nat :=
  let c0_31 : Index := 0#32
  let c96 : Index := 96#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v91 : Index := Scalar.indexCast v57
  ![0, 96, v91.toNat]
def k0_off9 (i : grid0.Coords) (v15 : BitVec 32) (k0_t1 : Fin (k0_t1_loop v15).trips) : Fin 3 → Nat :=
  let c3 : Index := 3#32
  let arg1 : BitVec 32 := BitVec.ofNat 32 (i 1).val
  let v95 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v96 : Index := Scalar.indexCast v57
  ![3, v95.toNat, v96.toNat]
def k0_off10 (v15 : BitVec 32) (k0_t1 : Fin (k0_t1_loop v15).trips) : Fin 3 → Nat :=
  let c0_32 : Index := 0#32
  let c128 : Index := 128#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v102 : Index := Scalar.indexCast v57
  ![0, 128, v102.toNat]
def k0_off11 (i : grid0.Coords) (v15 : BitVec 32) (k0_t1 : Fin (k0_t1_loop v15).trips) : Fin 3 → Nat :=
  let c4 : Index := 4#32
  let arg1 : BitVec 32 := BitVec.ofNat 32 (i 1).val
  let v106 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v107 : Index := Scalar.indexCast v57
  ![4, v106.toNat, v107.toNat]
def k0_off12 (v15 : BitVec 32) (k0_t1 : Fin (k0_t1_loop v15).trips) : Fin 3 → Nat :=
  let c0_33 : Index := 0#32
  let c160 : Index := 160#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v113 : Index := Scalar.indexCast v57
  ![0, 160, v113.toNat]
def k0_off13 (i : grid0.Coords) (v15 : BitVec 32) (k0_t1 : Fin (k0_t1_loop v15).trips) : Fin 3 → Nat :=
  let c5 : Index := 5#32
  let arg1 : BitVec 32 := BitVec.ofNat 32 (i 1).val
  let v117 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v118 : Index := Scalar.indexCast v57
  ![5, v117.toNat, v118.toNat]
def k0_off14 (v15 : BitVec 32) (k0_t1 : Fin (k0_t1_loop v15).trips) : Fin 3 → Nat :=
  let c0_34 : Index := 0#32
  let c192 : Index := 192#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v124 : Index := Scalar.indexCast v57
  ![0, 192, v124.toNat]
def k0_off15 (i : grid0.Coords) (v15 : BitVec 32) (k0_t1 : Fin (k0_t1_loop v15).trips) : Fin 3 → Nat :=
  let c6 : Index := 6#32
  let arg1 : BitVec 32 := BitVec.ofNat 32 (i 1).val
  let v128 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v129 : Index := Scalar.indexCast v57
  ![6, v128.toNat, v129.toNat]
def k0_off16 (v15 : BitVec 32) (k0_t1 : Fin (k0_t1_loop v15).trips) : Fin 3 → Nat :=
  let c0_35 : Index := 0#32
  let c224 : Index := 224#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v135 : Index := Scalar.indexCast v57
  ![0, 224, v135.toNat]
def k0_off17 (i : grid0.Coords) (v15 : BitVec 32) (k0_t1 : Fin (k0_t1_loop v15).trips) : Fin 3 → Nat :=
  let c7 : Index := 7#32
  let arg1 : BitVec 32 := BitVec.ofNat 32 (i 1).val
  let v139 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v140 : Index := Scalar.indexCast v57
  ![7, v139.toNat, v140.toNat]
def k0_off18 (v15 : BitVec 32) (k0_t1 : Fin (k0_t1_loop v15).trips) : Fin 3 → Nat :=
  let c0_36 : Index := 0#32
  let c256 : Index := 256#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v146 : Index := Scalar.indexCast v57
  ![0, 256, v146.toNat]
def k0_off19 (i : grid0.Coords) (v15 : BitVec 32) (k0_t1 : Fin (k0_t1_loop v15).trips) : Fin 3 → Nat :=
  let c8 : Index := 8#32
  let arg1 : BitVec 32 := BitVec.ofNat 32 (i 1).val
  let v150 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v151 : Index := Scalar.indexCast v57
  ![8, v150.toNat, v151.toNat]
def k0_off20 (v15 : BitVec 32) (k0_t1 : Fin (k0_t1_loop v15).trips) : Fin 3 → Nat :=
  let c0_37 : Index := 0#32
  let c288 : Index := 288#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v157 : Index := Scalar.indexCast v57
  ![0, 288, v157.toNat]
def k0_off21 (i : grid0.Coords) (v15 : BitVec 32) (k0_t1 : Fin (k0_t1_loop v15).trips) : Fin 3 → Nat :=
  let c9 : Index := 9#32
  let arg1 : BitVec 32 := BitVec.ofNat 32 (i 1).val
  let v161 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v162 : Index := Scalar.indexCast v57
  ![9, v161.toNat, v162.toNat]
def k0_off22 (v15 : BitVec 32) (k0_t1 : Fin (k0_t1_loop v15).trips) : Fin 3 → Nat :=
  let c0_38 : Index := 0#32
  let c320 : Index := 320#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v168 : Index := Scalar.indexCast v57
  ![0, 320, v168.toNat]
def k0_off23 (i : grid0.Coords) (v15 : BitVec 32) (k0_t1 : Fin (k0_t1_loop v15).trips) : Fin 3 → Nat :=
  let c10 : Index := 10#32
  let arg1 : BitVec 32 := BitVec.ofNat 32 (i 1).val
  let v172 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v173 : Index := Scalar.indexCast v57
  ![10, v172.toNat, v173.toNat]
def k0_off24 (v15 : BitVec 32) (k0_t1 : Fin (k0_t1_loop v15).trips) : Fin 3 → Nat :=
  let c0_39 : Index := 0#32
  let c352 : Index := 352#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v179 : Index := Scalar.indexCast v57
  ![0, 352, v179.toNat]
def k0_off25 (i : grid0.Coords) (v15 : BitVec 32) (k0_t1 : Fin (k0_t1_loop v15).trips) : Fin 3 → Nat :=
  let c11 : Index := 11#32
  let arg1 : BitVec 32 := BitVec.ofNat 32 (i 1).val
  let v183 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v184 : Index := Scalar.indexCast v57
  ![11, v183.toNat, v184.toNat]
def k0_off26 (v15 : BitVec 32) (k0_t1 : Fin (k0_t1_loop v15).trips) : Fin 3 → Nat :=
  let c0_40 : Index := 0#32
  let c384 : Index := 384#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v190 : Index := Scalar.indexCast v57
  ![0, 384, v190.toNat]
def k0_off27 (i : grid0.Coords) (v15 : BitVec 32) (k0_t1 : Fin (k0_t1_loop v15).trips) : Fin 3 → Nat :=
  let c12 : Index := 12#32
  let arg1 : BitVec 32 := BitVec.ofNat 32 (i 1).val
  let v194 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v195 : Index := Scalar.indexCast v57
  ![12, v194.toNat, v195.toNat]
def k0_off28 (v15 : BitVec 32) (k0_t1 : Fin (k0_t1_loop v15).trips) : Fin 3 → Nat :=
  let c0_41 : Index := 0#32
  let c416 : Index := 416#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v201 : Index := Scalar.indexCast v57
  ![0, 416, v201.toNat]
def k0_off29 (i : grid0.Coords) (v15 : BitVec 32) (k0_t1 : Fin (k0_t1_loop v15).trips) : Fin 3 → Nat :=
  let c13 : Index := 13#32
  let arg1 : BitVec 32 := BitVec.ofNat 32 (i 1).val
  let v205 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v206 : Index := Scalar.indexCast v57
  ![13, v205.toNat, v206.toNat]
def k0_off30 (v15 : BitVec 32) (k0_t1 : Fin (k0_t1_loop v15).trips) : Fin 3 → Nat :=
  let c0_42 : Index := 0#32
  let c448 : Index := 448#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v212 : Index := Scalar.indexCast v57
  ![0, 448, v212.toNat]
def k0_off31 (i : grid0.Coords) (v15 : BitVec 32) (k0_t1 : Fin (k0_t1_loop v15).trips) : Fin 3 → Nat :=
  let c14 : Index := 14#32
  let arg1 : BitVec 32 := BitVec.ofNat 32 (i 1).val
  let v216 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v217 : Index := Scalar.indexCast v57
  ![14, v216.toNat, v217.toNat]
def k0_off32 (i : grid0.Coords) (v15 : BitVec 32) (k0_t1 : Fin (k0_t1_loop v15).trips) : Fin 3 → Nat :=
  let arg1 : BitVec 32 := BitVec.ofNat 32 (i 1).val
  let v224 : Index := Scalar.indexCast arg1
  let c0_43 : Index := 0#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v225 : Index := Scalar.indexCast v57
  ![v224.toNat, 0, v225.toNat]
@[reducible] def k0_t2_loop (v15 : BitVec 32) : Scf.Loop 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let v36 : BitVec 32 := Scalar.addi c0_i32_13 v35
  let c1_i32_16 : BitVec 32 := 1#32
  ⟨v39, v36, c1_i32_16⟩
def k0_mult2 (v15 : BitVec 32) (k0_t2 : Fin (k0_t2_loop v15).trips) : BitVec 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  v56
def k0_off33 (v15 : BitVec 32) (k0_t2 : Fin (k0_t2_loop v15).trips) : Fin 3 → Nat :=
  let c0_26 : Index := 0#32
  let c0_27 : Index := 0#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v58 : Index := Scalar.indexCast v57
  ![0, 0, v58.toNat]
def k0_off34 (i : grid0.Coords) (v15 : BitVec 32) (k0_t2 : Fin (k0_t2_loop v15).trips) : Fin 3 → Nat :=
  let c0_28 : Index := 0#32
  let arg1 : BitVec 32 := BitVec.ofNat 32 (i 1).val
  let v62 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v63 : Index := Scalar.indexCast v57
  ![0, v62.toNat, v63.toNat]
def k0_off35 (v15 : BitVec 32) (k0_t2 : Fin (k0_t2_loop v15).trips) : Fin 3 → Nat :=
  let c0_29 : Index := 0#32
  let c32 : Index := 32#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v69 : Index := Scalar.indexCast v57
  ![0, 32, v69.toNat]
def k0_off36 (i : grid0.Coords) (v15 : BitVec 32) (k0_t2 : Fin (k0_t2_loop v15).trips) : Fin 3 → Nat :=
  let c1 : Index := 1#32
  let arg1 : BitVec 32 := BitVec.ofNat 32 (i 1).val
  let v73 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v74 : Index := Scalar.indexCast v57
  ![1, v73.toNat, v74.toNat]
def k0_off37 (v15 : BitVec 32) (k0_t2 : Fin (k0_t2_loop v15).trips) : Fin 3 → Nat :=
  let c0_30 : Index := 0#32
  let c64 : Index := 64#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v80 : Index := Scalar.indexCast v57
  ![0, 64, v80.toNat]
def k0_off38 (i : grid0.Coords) (v15 : BitVec 32) (k0_t2 : Fin (k0_t2_loop v15).trips) : Fin 3 → Nat :=
  let c2 : Index := 2#32
  let arg1 : BitVec 32 := BitVec.ofNat 32 (i 1).val
  let v84 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v85 : Index := Scalar.indexCast v57
  ![2, v84.toNat, v85.toNat]
def k0_off39 (v15 : BitVec 32) (k0_t2 : Fin (k0_t2_loop v15).trips) : Fin 3 → Nat :=
  let c0_31 : Index := 0#32
  let c96 : Index := 96#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v91 : Index := Scalar.indexCast v57
  ![0, 96, v91.toNat]
def k0_off40 (i : grid0.Coords) (v15 : BitVec 32) (k0_t2 : Fin (k0_t2_loop v15).trips) : Fin 3 → Nat :=
  let c3 : Index := 3#32
  let arg1 : BitVec 32 := BitVec.ofNat 32 (i 1).val
  let v95 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v96 : Index := Scalar.indexCast v57
  ![3, v95.toNat, v96.toNat]
def k0_off41 (v15 : BitVec 32) (k0_t2 : Fin (k0_t2_loop v15).trips) : Fin 3 → Nat :=
  let c0_32 : Index := 0#32
  let c128 : Index := 128#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v102 : Index := Scalar.indexCast v57
  ![0, 128, v102.toNat]
def k0_off42 (i : grid0.Coords) (v15 : BitVec 32) (k0_t2 : Fin (k0_t2_loop v15).trips) : Fin 3 → Nat :=
  let c4 : Index := 4#32
  let arg1 : BitVec 32 := BitVec.ofNat 32 (i 1).val
  let v106 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v107 : Index := Scalar.indexCast v57
  ![4, v106.toNat, v107.toNat]
def k0_off43 (v15 : BitVec 32) (k0_t2 : Fin (k0_t2_loop v15).trips) : Fin 3 → Nat :=
  let c0_33 : Index := 0#32
  let c160 : Index := 160#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v113 : Index := Scalar.indexCast v57
  ![0, 160, v113.toNat]
def k0_off44 (i : grid0.Coords) (v15 : BitVec 32) (k0_t2 : Fin (k0_t2_loop v15).trips) : Fin 3 → Nat :=
  let c5 : Index := 5#32
  let arg1 : BitVec 32 := BitVec.ofNat 32 (i 1).val
  let v117 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v118 : Index := Scalar.indexCast v57
  ![5, v117.toNat, v118.toNat]
def k0_off45 (v15 : BitVec 32) (k0_t2 : Fin (k0_t2_loop v15).trips) : Fin 3 → Nat :=
  let c0_34 : Index := 0#32
  let c192 : Index := 192#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v124 : Index := Scalar.indexCast v57
  ![0, 192, v124.toNat]
def k0_off46 (i : grid0.Coords) (v15 : BitVec 32) (k0_t2 : Fin (k0_t2_loop v15).trips) : Fin 3 → Nat :=
  let c6 : Index := 6#32
  let arg1 : BitVec 32 := BitVec.ofNat 32 (i 1).val
  let v128 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v129 : Index := Scalar.indexCast v57
  ![6, v128.toNat, v129.toNat]
def k0_off47 (v15 : BitVec 32) (k0_t2 : Fin (k0_t2_loop v15).trips) : Fin 3 → Nat :=
  let c0_35 : Index := 0#32
  let c224 : Index := 224#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v135 : Index := Scalar.indexCast v57
  ![0, 224, v135.toNat]
def k0_off48 (i : grid0.Coords) (v15 : BitVec 32) (k0_t2 : Fin (k0_t2_loop v15).trips) : Fin 3 → Nat :=
  let c7 : Index := 7#32
  let arg1 : BitVec 32 := BitVec.ofNat 32 (i 1).val
  let v139 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v140 : Index := Scalar.indexCast v57
  ![7, v139.toNat, v140.toNat]
def k0_off49 (v15 : BitVec 32) (k0_t2 : Fin (k0_t2_loop v15).trips) : Fin 3 → Nat :=
  let c0_36 : Index := 0#32
  let c256 : Index := 256#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v146 : Index := Scalar.indexCast v57
  ![0, 256, v146.toNat]
def k0_off50 (i : grid0.Coords) (v15 : BitVec 32) (k0_t2 : Fin (k0_t2_loop v15).trips) : Fin 3 → Nat :=
  let c8 : Index := 8#32
  let arg1 : BitVec 32 := BitVec.ofNat 32 (i 1).val
  let v150 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v151 : Index := Scalar.indexCast v57
  ![8, v150.toNat, v151.toNat]
def k0_off51 (v15 : BitVec 32) (k0_t2 : Fin (k0_t2_loop v15).trips) : Fin 3 → Nat :=
  let c0_37 : Index := 0#32
  let c288 : Index := 288#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v157 : Index := Scalar.indexCast v57
  ![0, 288, v157.toNat]
def k0_off52 (i : grid0.Coords) (v15 : BitVec 32) (k0_t2 : Fin (k0_t2_loop v15).trips) : Fin 3 → Nat :=
  let c9 : Index := 9#32
  let arg1 : BitVec 32 := BitVec.ofNat 32 (i 1).val
  let v161 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v162 : Index := Scalar.indexCast v57
  ![9, v161.toNat, v162.toNat]
def k0_off53 (v15 : BitVec 32) (k0_t2 : Fin (k0_t2_loop v15).trips) : Fin 3 → Nat :=
  let c0_38 : Index := 0#32
  let c320 : Index := 320#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v168 : Index := Scalar.indexCast v57
  ![0, 320, v168.toNat]
def k0_off54 (i : grid0.Coords) (v15 : BitVec 32) (k0_t2 : Fin (k0_t2_loop v15).trips) : Fin 3 → Nat :=
  let c10 : Index := 10#32
  let arg1 : BitVec 32 := BitVec.ofNat 32 (i 1).val
  let v172 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v173 : Index := Scalar.indexCast v57
  ![10, v172.toNat, v173.toNat]
def k0_off55 (v15 : BitVec 32) (k0_t2 : Fin (k0_t2_loop v15).trips) : Fin 3 → Nat :=
  let c0_39 : Index := 0#32
  let c352 : Index := 352#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v179 : Index := Scalar.indexCast v57
  ![0, 352, v179.toNat]
def k0_off56 (i : grid0.Coords) (v15 : BitVec 32) (k0_t2 : Fin (k0_t2_loop v15).trips) : Fin 3 → Nat :=
  let c11 : Index := 11#32
  let arg1 : BitVec 32 := BitVec.ofNat 32 (i 1).val
  let v183 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v184 : Index := Scalar.indexCast v57
  ![11, v183.toNat, v184.toNat]
def k0_off57 (v15 : BitVec 32) (k0_t2 : Fin (k0_t2_loop v15).trips) : Fin 3 → Nat :=
  let c0_40 : Index := 0#32
  let c384 : Index := 384#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v190 : Index := Scalar.indexCast v57
  ![0, 384, v190.toNat]
def k0_off58 (i : grid0.Coords) (v15 : BitVec 32) (k0_t2 : Fin (k0_t2_loop v15).trips) : Fin 3 → Nat :=
  let c12 : Index := 12#32
  let arg1 : BitVec 32 := BitVec.ofNat 32 (i 1).val
  let v194 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v195 : Index := Scalar.indexCast v57
  ![12, v194.toNat, v195.toNat]
def k0_off59 (v15 : BitVec 32) (k0_t2 : Fin (k0_t2_loop v15).trips) : Fin 3 → Nat :=
  let c0_41 : Index := 0#32
  let c416 : Index := 416#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v201 : Index := Scalar.indexCast v57
  ![0, 416, v201.toNat]
def k0_off60 (i : grid0.Coords) (v15 : BitVec 32) (k0_t2 : Fin (k0_t2_loop v15).trips) : Fin 3 → Nat :=
  let c13 : Index := 13#32
  let arg1 : BitVec 32 := BitVec.ofNat 32 (i 1).val
  let v205 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v206 : Index := Scalar.indexCast v57
  ![13, v205.toNat, v206.toNat]
def k0_off61 (v15 : BitVec 32) (k0_t2 : Fin (k0_t2_loop v15).trips) : Fin 3 → Nat :=
  let c0_42 : Index := 0#32
  let c448 : Index := 448#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v212 : Index := Scalar.indexCast v57
  ![0, 448, v212.toNat]
def k0_off62 (i : grid0.Coords) (v15 : BitVec 32) (k0_t2 : Fin (k0_t2_loop v15).trips) : Fin 3 → Nat :=
  let c14 : Index := 14#32
  let arg1 : BitVec 32 := BitVec.ofNat 32 (i 1).val
  let v216 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v217 : Index := Scalar.indexCast v57
  ![14, v216.toNat, v217.toNat]
def k0_off63 (i : grid0.Coords) (v15 : BitVec 32) (k0_t2 : Fin (k0_t2_loop v15).trips) : Fin 3 → Nat :=
  let arg1 : BitVec 32 := BitVec.ofNat 32 (i 1).val
  let v224 : Index := Scalar.indexCast arg1
  let c0_43 : Index := 0#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v225 : Index := Scalar.indexCast v57
  ![v224.toNat, 0, v225.toNat]

def k0_chk1_0 (i : grid0.Coords) (v15 : BitVec 32) : Prop :=
  ((k0_t1_loop v15).OK) ∧
  (∀ k0_t1 : Fin (k0_t1_loop v15).trips, 1024 ∣ (k0_mult1 v15 k0_t1).toNat) ∧
  (∀ k0_t1 : Fin (k0_t1_loop v15).trips, ∀ a, (k0_off2 v15 k0_t1) a + S1x32x1024.size a ≤ S1x480x5120.size a) ∧
  (∀ k0_t1 : Fin (k0_t1_loop v15).trips, ∀ a, (k0_off3 i v15 k0_t1) a + S1x1x1024.size a ≤ S15x8x5120.size a) ∧
  (∀ k0_t1 : Fin (k0_t1_loop v15).trips, ∀ a, (k0_off4 v15 k0_t1) a + S1x32x1024.size a ≤ S1x480x5120.size a) ∧
  (∀ k0_t1 : Fin (k0_t1_loop v15).trips, ∀ a, (k0_off5 i v15 k0_t1) a + S1x1x1024.size a ≤ S15x8x5120.size a) ∧
  (∀ k0_t1 : Fin (k0_t1_loop v15).trips, ∀ a, (k0_off6 v15 k0_t1) a + S1x32x1024.size a ≤ S1x480x5120.size a) ∧
  (∀ k0_t1 : Fin (k0_t1_loop v15).trips, ∀ a, (k0_off7 i v15 k0_t1) a + S1x1x1024.size a ≤ S15x8x5120.size a) ∧
  (∀ k0_t1 : Fin (k0_t1_loop v15).trips, ∀ a, (k0_off8 v15 k0_t1) a + S1x32x1024.size a ≤ S1x480x5120.size a) ∧
  (∀ k0_t1 : Fin (k0_t1_loop v15).trips, ∀ a, (k0_off9 i v15 k0_t1) a + S1x1x1024.size a ≤ S15x8x5120.size a) ∧
  (∀ k0_t1 : Fin (k0_t1_loop v15).trips, ∀ a, (k0_off10 v15 k0_t1) a + S1x32x1024.size a ≤ S1x480x5120.size a) ∧
  (∀ k0_t1 : Fin (k0_t1_loop v15).trips, ∀ a, (k0_off11 i v15 k0_t1) a + S1x1x1024.size a ≤ S15x8x5120.size a) ∧
  (∀ k0_t1 : Fin (k0_t1_loop v15).trips, ∀ a, (k0_off12 v15 k0_t1) a + S1x32x1024.size a ≤ S1x480x5120.size a) ∧
  (∀ k0_t1 : Fin (k0_t1_loop v15).trips, ∀ a, (k0_off13 i v15 k0_t1) a + S1x1x1024.size a ≤ S15x8x5120.size a) ∧
  (∀ k0_t1 : Fin (k0_t1_loop v15).trips, ∀ a, (k0_off14 v15 k0_t1) a + S1x32x1024.size a ≤ S1x480x5120.size a) ∧
  (∀ k0_t1 : Fin (k0_t1_loop v15).trips, ∀ a, (k0_off15 i v15 k0_t1) a + S1x1x1024.size a ≤ S15x8x5120.size a) ∧
  (∀ k0_t1 : Fin (k0_t1_loop v15).trips, ∀ a, (k0_off16 v15 k0_t1) a + S1x32x1024.size a ≤ S1x480x5120.size a) ∧
  (∀ k0_t1 : Fin (k0_t1_loop v15).trips, ∀ a, (k0_off17 i v15 k0_t1) a + S1x1x1024.size a ≤ S15x8x5120.size a) ∧
  (∀ k0_t1 : Fin (k0_t1_loop v15).trips, ∀ a, (k0_off18 v15 k0_t1) a + S1x32x1024.size a ≤ S1x480x5120.size a) ∧
  (∀ k0_t1 : Fin (k0_t1_loop v15).trips, ∀ a, (k0_off19 i v15 k0_t1) a + S1x1x1024.size a ≤ S15x8x5120.size a) ∧
  (∀ k0_t1 : Fin (k0_t1_loop v15).trips, ∀ a, (k0_off20 v15 k0_t1) a + S1x32x1024.size a ≤ S1x480x5120.size a) ∧
  (∀ k0_t1 : Fin (k0_t1_loop v15).trips, ∀ a, (k0_off21 i v15 k0_t1) a + S1x1x1024.size a ≤ S15x8x5120.size a) ∧
  (∀ k0_t1 : Fin (k0_t1_loop v15).trips, ∀ a, (k0_off22 v15 k0_t1) a + S1x32x1024.size a ≤ S1x480x5120.size a) ∧
  (∀ k0_t1 : Fin (k0_t1_loop v15).trips, ∀ a, (k0_off23 i v15 k0_t1) a + S1x1x1024.size a ≤ S15x8x5120.size a) ∧
  (∀ k0_t1 : Fin (k0_t1_loop v15).trips, ∀ a, (k0_off24 v15 k0_t1) a + S1x32x1024.size a ≤ S1x480x5120.size a) ∧
  (∀ k0_t1 : Fin (k0_t1_loop v15).trips, ∀ a, (k0_off25 i v15 k0_t1) a + S1x1x1024.size a ≤ S15x8x5120.size a) ∧
  (∀ k0_t1 : Fin (k0_t1_loop v15).trips, ∀ a, (k0_off26 v15 k0_t1) a + S1x32x1024.size a ≤ S1x480x5120.size a) ∧
  (∀ k0_t1 : Fin (k0_t1_loop v15).trips, ∀ a, (k0_off27 i v15 k0_t1) a + S1x1x1024.size a ≤ S15x8x5120.size a) ∧
  (∀ k0_t1 : Fin (k0_t1_loop v15).trips, ∀ a, (k0_off28 v15 k0_t1) a + S1x32x1024.size a ≤ S1x480x5120.size a) ∧
  (∀ k0_t1 : Fin (k0_t1_loop v15).trips, ∀ a, (k0_off29 i v15 k0_t1) a + S1x1x1024.size a ≤ S15x8x5120.size a) ∧
  (∀ k0_t1 : Fin (k0_t1_loop v15).trips, ∀ a, (k0_off30 v15 k0_t1) a + S1x32x1024.size a ≤ S1x480x5120.size a) ∧
  (∀ k0_t1 : Fin (k0_t1_loop v15).trips, ∀ a, (k0_off31 i v15 k0_t1) a + S1x1x1024.size a ≤ S15x8x5120.size a)
def k0_chk1_1 (i : grid0.Coords) (v15 : BitVec 32) : Prop :=
  (∀ k0_t1 : Fin (k0_t1_loop v15).trips, ∀ a, (k0_off32 i v15 k0_t1) a + S1x8x1024.size a ≤ S8x8x5120.size a) ∧
  ((k0_t2_loop v15).OK) ∧
  (∀ k0_t2 : Fin (k0_t2_loop v15).trips, 1024 ∣ (k0_mult2 v15 k0_t2).toNat) ∧
  (∀ k0_t2 : Fin (k0_t2_loop v15).trips, ∀ a, (k0_off33 v15 k0_t2) a + S1x32x1024.size a ≤ S1x480x5120.size a) ∧
  (∀ k0_t2 : Fin (k0_t2_loop v15).trips, ∀ a, (k0_off34 i v15 k0_t2) a + S1x1x1024.size a ≤ S15x8x5120.size a) ∧
  (∀ k0_t2 : Fin (k0_t2_loop v15).trips, ∀ a, (k0_off35 v15 k0_t2) a + S1x32x1024.size a ≤ S1x480x5120.size a) ∧
  (∀ k0_t2 : Fin (k0_t2_loop v15).trips, ∀ a, (k0_off36 i v15 k0_t2) a + S1x1x1024.size a ≤ S15x8x5120.size a) ∧
  (∀ k0_t2 : Fin (k0_t2_loop v15).trips, ∀ a, (k0_off37 v15 k0_t2) a + S1x32x1024.size a ≤ S1x480x5120.size a) ∧
  (∀ k0_t2 : Fin (k0_t2_loop v15).trips, ∀ a, (k0_off38 i v15 k0_t2) a + S1x1x1024.size a ≤ S15x8x5120.size a) ∧
  (∀ k0_t2 : Fin (k0_t2_loop v15).trips, ∀ a, (k0_off39 v15 k0_t2) a + S1x32x1024.size a ≤ S1x480x5120.size a) ∧
  (∀ k0_t2 : Fin (k0_t2_loop v15).trips, ∀ a, (k0_off40 i v15 k0_t2) a + S1x1x1024.size a ≤ S15x8x5120.size a) ∧
  (∀ k0_t2 : Fin (k0_t2_loop v15).trips, ∀ a, (k0_off41 v15 k0_t2) a + S1x32x1024.size a ≤ S1x480x5120.size a) ∧
  (∀ k0_t2 : Fin (k0_t2_loop v15).trips, ∀ a, (k0_off42 i v15 k0_t2) a + S1x1x1024.size a ≤ S15x8x5120.size a) ∧
  (∀ k0_t2 : Fin (k0_t2_loop v15).trips, ∀ a, (k0_off43 v15 k0_t2) a + S1x32x1024.size a ≤ S1x480x5120.size a) ∧
  (∀ k0_t2 : Fin (k0_t2_loop v15).trips, ∀ a, (k0_off44 i v15 k0_t2) a + S1x1x1024.size a ≤ S15x8x5120.size a) ∧
  (∀ k0_t2 : Fin (k0_t2_loop v15).trips, ∀ a, (k0_off45 v15 k0_t2) a + S1x32x1024.size a ≤ S1x480x5120.size a) ∧
  (∀ k0_t2 : Fin (k0_t2_loop v15).trips, ∀ a, (k0_off46 i v15 k0_t2) a + S1x1x1024.size a ≤ S15x8x5120.size a) ∧
  (∀ k0_t2 : Fin (k0_t2_loop v15).trips, ∀ a, (k0_off47 v15 k0_t2) a + S1x32x1024.size a ≤ S1x480x5120.size a) ∧
  (∀ k0_t2 : Fin (k0_t2_loop v15).trips, ∀ a, (k0_off48 i v15 k0_t2) a + S1x1x1024.size a ≤ S15x8x5120.size a) ∧
  (∀ k0_t2 : Fin (k0_t2_loop v15).trips, ∀ a, (k0_off49 v15 k0_t2) a + S1x32x1024.size a ≤ S1x480x5120.size a) ∧
  (∀ k0_t2 : Fin (k0_t2_loop v15).trips, ∀ a, (k0_off50 i v15 k0_t2) a + S1x1x1024.size a ≤ S15x8x5120.size a) ∧
  (∀ k0_t2 : Fin (k0_t2_loop v15).trips, ∀ a, (k0_off51 v15 k0_t2) a + S1x32x1024.size a ≤ S1x480x5120.size a) ∧
  (∀ k0_t2 : Fin (k0_t2_loop v15).trips, ∀ a, (k0_off52 i v15 k0_t2) a + S1x1x1024.size a ≤ S15x8x5120.size a) ∧
  (∀ k0_t2 : Fin (k0_t2_loop v15).trips, ∀ a, (k0_off53 v15 k0_t2) a + S1x32x1024.size a ≤ S1x480x5120.size a) ∧
  (∀ k0_t2 : Fin (k0_t2_loop v15).trips, ∀ a, (k0_off54 i v15 k0_t2) a + S1x1x1024.size a ≤ S15x8x5120.size a) ∧
  (∀ k0_t2 : Fin (k0_t2_loop v15).trips, ∀ a, (k0_off55 v15 k0_t2) a + S1x32x1024.size a ≤ S1x480x5120.size a) ∧
  (∀ k0_t2 : Fin (k0_t2_loop v15).trips, ∀ a, (k0_off56 i v15 k0_t2) a + S1x1x1024.size a ≤ S15x8x5120.size a) ∧
  (∀ k0_t2 : Fin (k0_t2_loop v15).trips, ∀ a, (k0_off57 v15 k0_t2) a + S1x32x1024.size a ≤ S1x480x5120.size a) ∧
  (∀ k0_t2 : Fin (k0_t2_loop v15).trips, ∀ a, (k0_off58 i v15 k0_t2) a + S1x1x1024.size a ≤ S15x8x5120.size a) ∧
  (∀ k0_t2 : Fin (k0_t2_loop v15).trips, ∀ a, (k0_off59 v15 k0_t2) a + S1x32x1024.size a ≤ S1x480x5120.size a) ∧
  (∀ k0_t2 : Fin (k0_t2_loop v15).trips, ∀ a, (k0_off60 i v15 k0_t2) a + S1x1x1024.size a ≤ S15x8x5120.size a) ∧
  (∀ k0_t2 : Fin (k0_t2_loop v15).trips, ∀ a, (k0_off61 v15 k0_t2) a + S1x32x1024.size a ≤ S1x480x5120.size a)
def k0_chk1_2 (i : grid0.Coords) (v15 : BitVec 32) : Prop :=
  (∀ k0_t2 : Fin (k0_t2_loop v15).trips, ∀ a, (k0_off62 i v15 k0_t2) a + S1x1x1024.size a ≤ S15x8x5120.size a) ∧
  (∀ k0_t2 : Fin (k0_t2_loop v15).trips, ∀ a, (k0_off63 i v15 k0_t2) a + S1x8x1024.size a ≤ S8x8x5120.size a)
def k0_chk1 (i : grid0.Coords) (v15 : BitVec 32) : Prop :=
  k0_chk1_0 i v15 ∧
  k0_chk1_1 i v15 ∧
  k0_chk1_2 i v15
theorem k0_t1_ok : ∀ (i : grid0.Coords) (v15 : BitVec 32) (k0_hw1 : k0_chk1 i v15), (k0_t1_loop v15).OK := fun i v15 k0_hw1 => k0_hw1.1.1
theorem k0_mult1_dvd : ∀ (i : grid0.Coords) (v15 : BitVec 32) (k0_hw1 : k0_chk1 i v15) (k0_t1 : Fin (k0_t1_loop v15).trips), 1024 ∣ (k0_mult1 v15 k0_t1).toNat := fun i v15 k0_hw1 k0_t1 => k0_hw1.1.2.1 k0_t1
theorem k0_off2_inb : ∀ (i : grid0.Coords) (v15 : BitVec 32) (k0_hw1 : k0_chk1 i v15) (k0_t1 : Fin (k0_t1_loop v15).trips), ∀ a, (k0_off2 v15 k0_t1) a + S1x32x1024.size a ≤ S1x480x5120.size a := fun i v15 k0_hw1 k0_t1 => k0_hw1.1.2.2.1 k0_t1
theorem k0_off3_inb : ∀ (i : grid0.Coords) (v15 : BitVec 32) (k0_hw1 : k0_chk1 i v15) (k0_t1 : Fin (k0_t1_loop v15).trips), ∀ a, (k0_off3 i v15 k0_t1) a + S1x1x1024.size a ≤ S15x8x5120.size a := fun i v15 k0_hw1 k0_t1 => k0_hw1.1.2.2.2.1 k0_t1
theorem k0_off4_inb : ∀ (i : grid0.Coords) (v15 : BitVec 32) (k0_hw1 : k0_chk1 i v15) (k0_t1 : Fin (k0_t1_loop v15).trips), ∀ a, (k0_off4 v15 k0_t1) a + S1x32x1024.size a ≤ S1x480x5120.size a := fun i v15 k0_hw1 k0_t1 => k0_hw1.1.2.2.2.2.1 k0_t1
theorem k0_off5_inb : ∀ (i : grid0.Coords) (v15 : BitVec 32) (k0_hw1 : k0_chk1 i v15) (k0_t1 : Fin (k0_t1_loop v15).trips), ∀ a, (k0_off5 i v15 k0_t1) a + S1x1x1024.size a ≤ S15x8x5120.size a := fun i v15 k0_hw1 k0_t1 => k0_hw1.1.2.2.2.2.2.1 k0_t1
theorem k0_off6_inb : ∀ (i : grid0.Coords) (v15 : BitVec 32) (k0_hw1 : k0_chk1 i v15) (k0_t1 : Fin (k0_t1_loop v15).trips), ∀ a, (k0_off6 v15 k0_t1) a + S1x32x1024.size a ≤ S1x480x5120.size a := fun i v15 k0_hw1 k0_t1 => k0_hw1.1.2.2.2.2.2.2.1 k0_t1
theorem k0_off7_inb : ∀ (i : grid0.Coords) (v15 : BitVec 32) (k0_hw1 : k0_chk1 i v15) (k0_t1 : Fin (k0_t1_loop v15).trips), ∀ a, (k0_off7 i v15 k0_t1) a + S1x1x1024.size a ≤ S15x8x5120.size a := fun i v15 k0_hw1 k0_t1 => k0_hw1.1.2.2.2.2.2.2.2.1 k0_t1
theorem k0_off8_inb : ∀ (i : grid0.Coords) (v15 : BitVec 32) (k0_hw1 : k0_chk1 i v15) (k0_t1 : Fin (k0_t1_loop v15).trips), ∀ a, (k0_off8 v15 k0_t1) a + S1x32x1024.size a ≤ S1x480x5120.size a := fun i v15 k0_hw1 k0_t1 => k0_hw1.1.2.2.2.2.2.2.2.2.1 k0_t1
theorem k0_off9_inb : ∀ (i : grid0.Coords) (v15 : BitVec 32) (k0_hw1 : k0_chk1 i v15) (k0_t1 : Fin (k0_t1_loop v15).trips), ∀ a, (k0_off9 i v15 k0_t1) a + S1x1x1024.size a ≤ S15x8x5120.size a := fun i v15 k0_hw1 k0_t1 => k0_hw1.1.2.2.2.2.2.2.2.2.2.1 k0_t1
theorem k0_off10_inb : ∀ (i : grid0.Coords) (v15 : BitVec 32) (k0_hw1 : k0_chk1 i v15) (k0_t1 : Fin (k0_t1_loop v15).trips), ∀ a, (k0_off10 v15 k0_t1) a + S1x32x1024.size a ≤ S1x480x5120.size a := fun i v15 k0_hw1 k0_t1 => k0_hw1.1.2.2.2.2.2.2.2.2.2.2.1 k0_t1
theorem k0_off11_inb : ∀ (i : grid0.Coords) (v15 : BitVec 32) (k0_hw1 : k0_chk1 i v15) (k0_t1 : Fin (k0_t1_loop v15).trips), ∀ a, (k0_off11 i v15 k0_t1) a + S1x1x1024.size a ≤ S15x8x5120.size a := fun i v15 k0_hw1 k0_t1 => k0_hw1.1.2.2.2.2.2.2.2.2.2.2.2.1 k0_t1
theorem k0_off12_inb : ∀ (i : grid0.Coords) (v15 : BitVec 32) (k0_hw1 : k0_chk1 i v15) (k0_t1 : Fin (k0_t1_loop v15).trips), ∀ a, (k0_off12 v15 k0_t1) a + S1x32x1024.size a ≤ S1x480x5120.size a := fun i v15 k0_hw1 k0_t1 => k0_hw1.1.2.2.2.2.2.2.2.2.2.2.2.2.1 k0_t1
theorem k0_off13_inb : ∀ (i : grid0.Coords) (v15 : BitVec 32) (k0_hw1 : k0_chk1 i v15) (k0_t1 : Fin (k0_t1_loop v15).trips), ∀ a, (k0_off13 i v15 k0_t1) a + S1x1x1024.size a ≤ S15x8x5120.size a := fun i v15 k0_hw1 k0_t1 => k0_hw1.1.2.2.2.2.2.2.2.2.2.2.2.2.2.1 k0_t1
theorem k0_off14_inb : ∀ (i : grid0.Coords) (v15 : BitVec 32) (k0_hw1 : k0_chk1 i v15) (k0_t1 : Fin (k0_t1_loop v15).trips), ∀ a, (k0_off14 v15 k0_t1) a + S1x32x1024.size a ≤ S1x480x5120.size a := fun i v15 k0_hw1 k0_t1 => k0_hw1.1.2.2.2.2.2.2.2.2.2.2.2.2.2.2.1 k0_t1
theorem k0_off15_inb : ∀ (i : grid0.Coords) (v15 : BitVec 32) (k0_hw1 : k0_chk1 i v15) (k0_t1 : Fin (k0_t1_loop v15).trips), ∀ a, (k0_off15 i v15 k0_t1) a + S1x1x1024.size a ≤ S15x8x5120.size a := fun i v15 k0_hw1 k0_t1 => k0_hw1.1.2.2.2.2.2.2.2.2.2.2.2.2.2.2.2.1 k0_t1
theorem k0_off16_inb : ∀ (i : grid0.Coords) (v15 : BitVec 32) (k0_hw1 : k0_chk1 i v15) (k0_t1 : Fin (k0_t1_loop v15).trips), ∀ a, (k0_off16 v15 k0_t1) a + S1x32x1024.size a ≤ S1x480x5120.size a := fun i v15 k0_hw1 k0_t1 => k0_hw1.1.2.2.2.2.2.2.2.2.2.2.2.2.2.2.2.2.1 k0_t1
theorem k0_off17_inb : ∀ (i : grid0.Coords) (v15 : BitVec 32) (k0_hw1 : k0_chk1 i v15) (k0_t1 : Fin (k0_t1_loop v15).trips), ∀ a, (k0_off17 i v15 k0_t1) a + S1x1x1024.size a ≤ S15x8x5120.size a := fun i v15 k0_hw1 k0_t1 => k0_hw1.1.2.2.2.2.2.2.2.2.2.2.2.2.2.2.2.2.2.1 k0_t1
theorem k0_off18_inb : ∀ (i : grid0.Coords) (v15 : BitVec 32) (k0_hw1 : k0_chk1 i v15) (k0_t1 : Fin (k0_t1_loop v15).trips), ∀ a, (k0_off18 v15 k0_t1) a + S1x32x1024.size a ≤ S1x480x5120.size a := fun i v15 k0_hw1 k0_t1 => k0_hw1.1.2.2.2.2.2.2.2.2.2.2.2.2.2.2.2.2.2.2.1 k0_t1
theorem k0_off19_inb : ∀ (i : grid0.Coords) (v15 : BitVec 32) (k0_hw1 : k0_chk1 i v15) (k0_t1 : Fin (k0_t1_loop v15).trips), ∀ a, (k0_off19 i v15 k0_t1) a + S1x1x1024.size a ≤ S15x8x5120.size a := fun i v15 k0_hw1 k0_t1 => k0_hw1.1.2.2.2.2.2.2.2.2.2.2.2.2.2.2.2.2.2.2.2.1 k0_t1
theorem k0_off20_inb : ∀ (i : grid0.Coords) (v15 : BitVec 32) (k0_hw1 : k0_chk1 i v15) (k0_t1 : Fin (k0_t1_loop v15).trips), ∀ a, (k0_off20 v15 k0_t1) a + S1x32x1024.size a ≤ S1x480x5120.size a := fun i v15 k0_hw1 k0_t1 => k0_hw1.1.2.2.2.2.2.2.2.2.2.2.2.2.2.2.2.2.2.2.2.2.1 k0_t1
theorem k0_off21_inb : ∀ (i : grid0.Coords) (v15 : BitVec 32) (k0_hw1 : k0_chk1 i v15) (k0_t1 : Fin (k0_t1_loop v15).trips), ∀ a, (k0_off21 i v15 k0_t1) a + S1x1x1024.size a ≤ S15x8x5120.size a := fun i v15 k0_hw1 k0_t1 => k0_hw1.1.2.2.2.2.2.2.2.2.2.2.2.2.2.2.2.2.2.2.2.2.2.1 k0_t1
theorem k0_off22_inb : ∀ (i : grid0.Coords) (v15 : BitVec 32) (k0_hw1 : k0_chk1 i v15) (k0_t1 : Fin (k0_t1_loop v15).trips), ∀ a, (k0_off22 v15 k0_t1) a + S1x32x1024.size a ≤ S1x480x5120.size a := fun i v15 k0_hw1 k0_t1 => k0_hw1.1.2.2.2.2.2.2.2.2.2.2.2.2.2.2.2.2.2.2.2.2.2.2.1 k0_t1
theorem k0_off23_inb : ∀ (i : grid0.Coords) (v15 : BitVec 32) (k0_hw1 : k0_chk1 i v15) (k0_t1 : Fin (k0_t1_loop v15).trips), ∀ a, (k0_off23 i v15 k0_t1) a + S1x1x1024.size a ≤ S15x8x5120.size a := fun i v15 k0_hw1 k0_t1 => k0_hw1.1.2.2.2.2.2.2.2.2.2.2.2.2.2.2.2.2.2.2.2.2.2.2.2.1 k0_t1
theorem k0_off24_inb : ∀ (i : grid0.Coords) (v15 : BitVec 32) (k0_hw1 : k0_chk1 i v15) (k0_t1 : Fin (k0_t1_loop v15).trips), ∀ a, (k0_off24 v15 k0_t1) a + S1x32x1024.size a ≤ S1x480x5120.size a := fun i v15 k0_hw1 k0_t1 => k0_hw1.1.2.2.2.2.2.2.2.2.2.2.2.2.2.2.2.2.2.2.2.2.2.2.2.2.1 k0_t1
theorem k0_off25_inb : ∀ (i : grid0.Coords) (v15 : BitVec 32) (k0_hw1 : k0_chk1 i v15) (k0_t1 : Fin (k0_t1_loop v15).trips), ∀ a, (k0_off25 i v15 k0_t1) a + S1x1x1024.size a ≤ S15x8x5120.size a := fun i v15 k0_hw1 k0_t1 => k0_hw1.1.2.2.2.2.2.2.2.2.2.2.2.2.2.2.2.2.2.2.2.2.2.2.2.2.2.1 k0_t1
theorem k0_off26_inb : ∀ (i : grid0.Coords) (v15 : BitVec 32) (k0_hw1 : k0_chk1 i v15) (k0_t1 : Fin (k0_t1_loop v15).trips), ∀ a, (k0_off26 v15 k0_t1) a + S1x32x1024.size a ≤ S1x480x5120.size a := fun i v15 k0_hw1 k0_t1 => k0_hw1.1.2.2.2.2.2.2.2.2.2.2.2.2.2.2.2.2.2.2.2.2.2.2.2.2.2.2.1 k0_t1
theorem k0_off27_inb : ∀ (i : grid0.Coords) (v15 : BitVec 32) (k0_hw1 : k0_chk1 i v15) (k0_t1 : Fin (k0_t1_loop v15).trips), ∀ a, (k0_off27 i v15 k0_t1) a + S1x1x1024.size a ≤ S15x8x5120.size a := fun i v15 k0_hw1 k0_t1 => k0_hw1.1.2.2.2.2.2.2.2.2.2.2.2.2.2.2.2.2.2.2.2.2.2.2.2.2.2.2.2.1 k0_t1
theorem k0_off28_inb : ∀ (i : grid0.Coords) (v15 : BitVec 32) (k0_hw1 : k0_chk1 i v15) (k0_t1 : Fin (k0_t1_loop v15).trips), ∀ a, (k0_off28 v15 k0_t1) a + S1x32x1024.size a ≤ S1x480x5120.size a := fun i v15 k0_hw1 k0_t1 => k0_hw1.1.2.2.2.2.2.2.2.2.2.2.2.2.2.2.2.2.2.2.2.2.2.2.2.2.2.2.2.2.1 k0_t1
theorem k0_off29_inb : ∀ (i : grid0.Coords) (v15 : BitVec 32) (k0_hw1 : k0_chk1 i v15) (k0_t1 : Fin (k0_t1_loop v15).trips), ∀ a, (k0_off29 i v15 k0_t1) a + S1x1x1024.size a ≤ S15x8x5120.size a := fun i v15 k0_hw1 k0_t1 => k0_hw1.1.2.2.2.2.2.2.2.2.2.2.2.2.2.2.2.2.2.2.2.2.2.2.2.2.2.2.2.2.2.1 k0_t1
theorem k0_off30_inb : ∀ (i : grid0.Coords) (v15 : BitVec 32) (k0_hw1 : k0_chk1 i v15) (k0_t1 : Fin (k0_t1_loop v15).trips), ∀ a, (k0_off30 v15 k0_t1) a + S1x32x1024.size a ≤ S1x480x5120.size a := fun i v15 k0_hw1 k0_t1 => k0_hw1.1.2.2.2.2.2.2.2.2.2.2.2.2.2.2.2.2.2.2.2.2.2.2.2.2.2.2.2.2.2.2.1 k0_t1
theorem k0_off31_inb : ∀ (i : grid0.Coords) (v15 : BitVec 32) (k0_hw1 : k0_chk1 i v15) (k0_t1 : Fin (k0_t1_loop v15).trips), ∀ a, (k0_off31 i v15 k0_t1) a + S1x1x1024.size a ≤ S15x8x5120.size a := fun i v15 k0_hw1 k0_t1 => k0_hw1.1.2.2.2.2.2.2.2.2.2.2.2.2.2.2.2.2.2.2.2.2.2.2.2.2.2.2.2.2.2.2.2 k0_t1
theorem k0_off32_inb : ∀ (i : grid0.Coords) (v15 : BitVec 32) (k0_hw1 : k0_chk1 i v15) (k0_t1 : Fin (k0_t1_loop v15).trips), ∀ a, (k0_off32 i v15 k0_t1) a + S1x8x1024.size a ≤ S8x8x5120.size a := fun i v15 k0_hw1 k0_t1 => k0_hw1.2.1.1 k0_t1
theorem k0_t2_ok : ∀ (i : grid0.Coords) (v15 : BitVec 32) (k0_hw1 : k0_chk1 i v15), (k0_t2_loop v15).OK := fun i v15 k0_hw1 => k0_hw1.2.1.2.1
theorem k0_mult2_dvd : ∀ (i : grid0.Coords) (v15 : BitVec 32) (k0_hw1 : k0_chk1 i v15) (k0_t2 : Fin (k0_t2_loop v15).trips), 1024 ∣ (k0_mult2 v15 k0_t2).toNat := fun i v15 k0_hw1 k0_t2 => k0_hw1.2.1.2.2.1 k0_t2
theorem k0_off33_inb : ∀ (i : grid0.Coords) (v15 : BitVec 32) (k0_hw1 : k0_chk1 i v15) (k0_t2 : Fin (k0_t2_loop v15).trips), ∀ a, (k0_off33 v15 k0_t2) a + S1x32x1024.size a ≤ S1x480x5120.size a := fun i v15 k0_hw1 k0_t2 => k0_hw1.2.1.2.2.2.1 k0_t2
theorem k0_off34_inb : ∀ (i : grid0.Coords) (v15 : BitVec 32) (k0_hw1 : k0_chk1 i v15) (k0_t2 : Fin (k0_t2_loop v15).trips), ∀ a, (k0_off34 i v15 k0_t2) a + S1x1x1024.size a ≤ S15x8x5120.size a := fun i v15 k0_hw1 k0_t2 => k0_hw1.2.1.2.2.2.2.1 k0_t2
theorem k0_off35_inb : ∀ (i : grid0.Coords) (v15 : BitVec 32) (k0_hw1 : k0_chk1 i v15) (k0_t2 : Fin (k0_t2_loop v15).trips), ∀ a, (k0_off35 v15 k0_t2) a + S1x32x1024.size a ≤ S1x480x5120.size a := fun i v15 k0_hw1 k0_t2 => k0_hw1.2.1.2.2.2.2.2.1 k0_t2
theorem k0_off36_inb : ∀ (i : grid0.Coords) (v15 : BitVec 32) (k0_hw1 : k0_chk1 i v15) (k0_t2 : Fin (k0_t2_loop v15).trips), ∀ a, (k0_off36 i v15 k0_t2) a + S1x1x1024.size a ≤ S15x8x5120.size a := fun i v15 k0_hw1 k0_t2 => k0_hw1.2.1.2.2.2.2.2.2.1 k0_t2
theorem k0_off37_inb : ∀ (i : grid0.Coords) (v15 : BitVec 32) (k0_hw1 : k0_chk1 i v15) (k0_t2 : Fin (k0_t2_loop v15).trips), ∀ a, (k0_off37 v15 k0_t2) a + S1x32x1024.size a ≤ S1x480x5120.size a := fun i v15 k0_hw1 k0_t2 => k0_hw1.2.1.2.2.2.2.2.2.2.1 k0_t2
theorem k0_off38_inb : ∀ (i : grid0.Coords) (v15 : BitVec 32) (k0_hw1 : k0_chk1 i v15) (k0_t2 : Fin (k0_t2_loop v15).trips), ∀ a, (k0_off38 i v15 k0_t2) a + S1x1x1024.size a ≤ S15x8x5120.size a := fun i v15 k0_hw1 k0_t2 => k0_hw1.2.1.2.2.2.2.2.2.2.2.1 k0_t2
theorem k0_off39_inb : ∀ (i : grid0.Coords) (v15 : BitVec 32) (k0_hw1 : k0_chk1 i v15) (k0_t2 : Fin (k0_t2_loop v15).trips), ∀ a, (k0_off39 v15 k0_t2) a + S1x32x1024.size a ≤ S1x480x5120.size a := fun i v15 k0_hw1 k0_t2 => k0_hw1.2.1.2.2.2.2.2.2.2.2.2.1 k0_t2
theorem k0_off40_inb : ∀ (i : grid0.Coords) (v15 : BitVec 32) (k0_hw1 : k0_chk1 i v15) (k0_t2 : Fin (k0_t2_loop v15).trips), ∀ a, (k0_off40 i v15 k0_t2) a + S1x1x1024.size a ≤ S15x8x5120.size a := fun i v15 k0_hw1 k0_t2 => k0_hw1.2.1.2.2.2.2.2.2.2.2.2.2.1 k0_t2
theorem k0_off41_inb : ∀ (i : grid0.Coords) (v15 : BitVec 32) (k0_hw1 : k0_chk1 i v15) (k0_t2 : Fin (k0_t2_loop v15).trips), ∀ a, (k0_off41 v15 k0_t2) a + S1x32x1024.size a ≤ S1x480x5120.size a := fun i v15 k0_hw1 k0_t2 => k0_hw1.2.1.2.2.2.2.2.2.2.2.2.2.2.1 k0_t2
theorem k0_off42_inb : ∀ (i : grid0.Coords) (v15 : BitVec 32) (k0_hw1 : k0_chk1 i v15) (k0_t2 : Fin (k0_t2_loop v15).trips), ∀ a, (k0_off42 i v15 k0_t2) a + S1x1x1024.size a ≤ S15x8x5120.size a := fun i v15 k0_hw1 k0_t2 => k0_hw1.2.1.2.2.2.2.2.2.2.2.2.2.2.2.1 k0_t2
theorem k0_off43_inb : ∀ (i : grid0.Coords) (v15 : BitVec 32) (k0_hw1 : k0_chk1 i v15) (k0_t2 : Fin (k0_t2_loop v15).trips), ∀ a, (k0_off43 v15 k0_t2) a + S1x32x1024.size a ≤ S1x480x5120.size a := fun i v15 k0_hw1 k0_t2 => k0_hw1.2.1.2.2.2.2.2.2.2.2.2.2.2.2.2.1 k0_t2
theorem k0_off44_inb : ∀ (i : grid0.Coords) (v15 : BitVec 32) (k0_hw1 : k0_chk1 i v15) (k0_t2 : Fin (k0_t2_loop v15).trips), ∀ a, (k0_off44 i v15 k0_t2) a + S1x1x1024.size a ≤ S15x8x5120.size a := fun i v15 k0_hw1 k0_t2 => k0_hw1.2.1.2.2.2.2.2.2.2.2.2.2.2.2.2.2.1 k0_t2
theorem k0_off45_inb : ∀ (i : grid0.Coords) (v15 : BitVec 32) (k0_hw1 : k0_chk1 i v15) (k0_t2 : Fin (k0_t2_loop v15).trips), ∀ a, (k0_off45 v15 k0_t2) a + S1x32x1024.size a ≤ S1x480x5120.size a := fun i v15 k0_hw1 k0_t2 => k0_hw1.2.1.2.2.2.2.2.2.2.2.2.2.2.2.2.2.2.1 k0_t2
theorem k0_off46_inb : ∀ (i : grid0.Coords) (v15 : BitVec 32) (k0_hw1 : k0_chk1 i v15) (k0_t2 : Fin (k0_t2_loop v15).trips), ∀ a, (k0_off46 i v15 k0_t2) a + S1x1x1024.size a ≤ S15x8x5120.size a := fun i v15 k0_hw1 k0_t2 => k0_hw1.2.1.2.2.2.2.2.2.2.2.2.2.2.2.2.2.2.2.1 k0_t2
theorem k0_off47_inb : ∀ (i : grid0.Coords) (v15 : BitVec 32) (k0_hw1 : k0_chk1 i v15) (k0_t2 : Fin (k0_t2_loop v15).trips), ∀ a, (k0_off47 v15 k0_t2) a + S1x32x1024.size a ≤ S1x480x5120.size a := fun i v15 k0_hw1 k0_t2 => k0_hw1.2.1.2.2.2.2.2.2.2.2.2.2.2.2.2.2.2.2.2.1 k0_t2
theorem k0_off48_inb : ∀ (i : grid0.Coords) (v15 : BitVec 32) (k0_hw1 : k0_chk1 i v15) (k0_t2 : Fin (k0_t2_loop v15).trips), ∀ a, (k0_off48 i v15 k0_t2) a + S1x1x1024.size a ≤ S15x8x5120.size a := fun i v15 k0_hw1 k0_t2 => k0_hw1.2.1.2.2.2.2.2.2.2.2.2.2.2.2.2.2.2.2.2.2.1 k0_t2
theorem k0_off49_inb : ∀ (i : grid0.Coords) (v15 : BitVec 32) (k0_hw1 : k0_chk1 i v15) (k0_t2 : Fin (k0_t2_loop v15).trips), ∀ a, (k0_off49 v15 k0_t2) a + S1x32x1024.size a ≤ S1x480x5120.size a := fun i v15 k0_hw1 k0_t2 => k0_hw1.2.1.2.2.2.2.2.2.2.2.2.2.2.2.2.2.2.2.2.2.2.1 k0_t2
theorem k0_off50_inb : ∀ (i : grid0.Coords) (v15 : BitVec 32) (k0_hw1 : k0_chk1 i v15) (k0_t2 : Fin (k0_t2_loop v15).trips), ∀ a, (k0_off50 i v15 k0_t2) a + S1x1x1024.size a ≤ S15x8x5120.size a := fun i v15 k0_hw1 k0_t2 => k0_hw1.2.1.2.2.2.2.2.2.2.2.2.2.2.2.2.2.2.2.2.2.2.2.1 k0_t2
theorem k0_off51_inb : ∀ (i : grid0.Coords) (v15 : BitVec 32) (k0_hw1 : k0_chk1 i v15) (k0_t2 : Fin (k0_t2_loop v15).trips), ∀ a, (k0_off51 v15 k0_t2) a + S1x32x1024.size a ≤ S1x480x5120.size a := fun i v15 k0_hw1 k0_t2 => k0_hw1.2.1.2.2.2.2.2.2.2.2.2.2.2.2.2.2.2.2.2.2.2.2.2.1 k0_t2
theorem k0_off52_inb : ∀ (i : grid0.Coords) (v15 : BitVec 32) (k0_hw1 : k0_chk1 i v15) (k0_t2 : Fin (k0_t2_loop v15).trips), ∀ a, (k0_off52 i v15 k0_t2) a + S1x1x1024.size a ≤ S15x8x5120.size a := fun i v15 k0_hw1 k0_t2 => k0_hw1.2.1.2.2.2.2.2.2.2.2.2.2.2.2.2.2.2.2.2.2.2.2.2.2.1 k0_t2
theorem k0_off53_inb : ∀ (i : grid0.Coords) (v15 : BitVec 32) (k0_hw1 : k0_chk1 i v15) (k0_t2 : Fin (k0_t2_loop v15).trips), ∀ a, (k0_off53 v15 k0_t2) a + S1x32x1024.size a ≤ S1x480x5120.size a := fun i v15 k0_hw1 k0_t2 => k0_hw1.2.1.2.2.2.2.2.2.2.2.2.2.2.2.2.2.2.2.2.2.2.2.2.2.2.1 k0_t2
theorem k0_off54_inb : ∀ (i : grid0.Coords) (v15 : BitVec 32) (k0_hw1 : k0_chk1 i v15) (k0_t2 : Fin (k0_t2_loop v15).trips), ∀ a, (k0_off54 i v15 k0_t2) a + S1x1x1024.size a ≤ S15x8x5120.size a := fun i v15 k0_hw1 k0_t2 => k0_hw1.2.1.2.2.2.2.2.2.2.2.2.2.2.2.2.2.2.2.2.2.2.2.2.2.2.2.1 k0_t2
theorem k0_off55_inb : ∀ (i : grid0.Coords) (v15 : BitVec 32) (k0_hw1 : k0_chk1 i v15) (k0_t2 : Fin (k0_t2_loop v15).trips), ∀ a, (k0_off55 v15 k0_t2) a + S1x32x1024.size a ≤ S1x480x5120.size a := fun i v15 k0_hw1 k0_t2 => k0_hw1.2.1.2.2.2.2.2.2.2.2.2.2.2.2.2.2.2.2.2.2.2.2.2.2.2.2.2.1 k0_t2
theorem k0_off56_inb : ∀ (i : grid0.Coords) (v15 : BitVec 32) (k0_hw1 : k0_chk1 i v15) (k0_t2 : Fin (k0_t2_loop v15).trips), ∀ a, (k0_off56 i v15 k0_t2) a + S1x1x1024.size a ≤ S15x8x5120.size a := fun i v15 k0_hw1 k0_t2 => k0_hw1.2.1.2.2.2.2.2.2.2.2.2.2.2.2.2.2.2.2.2.2.2.2.2.2.2.2.2.2.1 k0_t2
theorem k0_off57_inb : ∀ (i : grid0.Coords) (v15 : BitVec 32) (k0_hw1 : k0_chk1 i v15) (k0_t2 : Fin (k0_t2_loop v15).trips), ∀ a, (k0_off57 v15 k0_t2) a + S1x32x1024.size a ≤ S1x480x5120.size a := fun i v15 k0_hw1 k0_t2 => k0_hw1.2.1.2.2.2.2.2.2.2.2.2.2.2.2.2.2.2.2.2.2.2.2.2.2.2.2.2.2.2.1 k0_t2
theorem k0_off58_inb : ∀ (i : grid0.Coords) (v15 : BitVec 32) (k0_hw1 : k0_chk1 i v15) (k0_t2 : Fin (k0_t2_loop v15).trips), ∀ a, (k0_off58 i v15 k0_t2) a + S1x1x1024.size a ≤ S15x8x5120.size a := fun i v15 k0_hw1 k0_t2 => k0_hw1.2.1.2.2.2.2.2.2.2.2.2.2.2.2.2.2.2.2.2.2.2.2.2.2.2.2.2.2.2.2.1 k0_t2
theorem k0_off59_inb : ∀ (i : grid0.Coords) (v15 : BitVec 32) (k0_hw1 : k0_chk1 i v15) (k0_t2 : Fin (k0_t2_loop v15).trips), ∀ a, (k0_off59 v15 k0_t2) a + S1x32x1024.size a ≤ S1x480x5120.size a := fun i v15 k0_hw1 k0_t2 => k0_hw1.2.1.2.2.2.2.2.2.2.2.2.2.2.2.2.2.2.2.2.2.2.2.2.2.2.2.2.2.2.2.2.1 k0_t2
theorem k0_off60_inb : ∀ (i : grid0.Coords) (v15 : BitVec 32) (k0_hw1 : k0_chk1 i v15) (k0_t2 : Fin (k0_t2_loop v15).trips), ∀ a, (k0_off60 i v15 k0_t2) a + S1x1x1024.size a ≤ S15x8x5120.size a := fun i v15 k0_hw1 k0_t2 => k0_hw1.2.1.2.2.2.2.2.2.2.2.2.2.2.2.2.2.2.2.2.2.2.2.2.2.2.2.2.2.2.2.2.2.1 k0_t2
theorem k0_off61_inb : ∀ (i : grid0.Coords) (v15 : BitVec 32) (k0_hw1 : k0_chk1 i v15) (k0_t2 : Fin (k0_t2_loop v15).trips), ∀ a, (k0_off61 v15 k0_t2) a + S1x32x1024.size a ≤ S1x480x5120.size a := fun i v15 k0_hw1 k0_t2 => k0_hw1.2.1.2.2.2.2.2.2.2.2.2.2.2.2.2.2.2.2.2.2.2.2.2.2.2.2.2.2.2.2.2.2.2 k0_t2
theorem k0_off62_inb : ∀ (i : grid0.Coords) (v15 : BitVec 32) (k0_hw1 : k0_chk1 i v15) (k0_t2 : Fin (k0_t2_loop v15).trips), ∀ a, (k0_off62 i v15 k0_t2) a + S1x1x1024.size a ≤ S15x8x5120.size a := fun i v15 k0_hw1 k0_t2 => k0_hw1.2.2.1 k0_t2
theorem k0_off63_inb : ∀ (i : grid0.Coords) (v15 : BitVec 32) (k0_hw1 : k0_chk1 i v15) (k0_t2 : Fin (k0_t2_loop v15).trips), ∀ a, (k0_off63 i v15 k0_t2) a + S1x8x1024.size a ≤ S8x8x5120.size a := fun i v15 k0_hw1 k0_t2 => k0_hw1.2.2.2 k0_t2

def k0_off64 (i : grid0.Coords) : Fin 2 → Nat :=
  let arg1 : BitVec 32 := BitVec.ofNat 32 (i 1).val
  let v42 : Index := Scalar.indexCast arg1
  let c0_19 : Index := 0#32
  ![v42.toNat, 0]
def k0_off65 (i : grid0.Coords) : Fin 3 → Nat :=
  let arg1 : BitVec 32 := BitVec.ofNat 32 (i 1).val
  let v45 : Index := Scalar.indexCast arg1
  let c0_20 : Index := 0#32
  let c0_21 : Index := 0#32
  ![v45.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S10x8x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S15x8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x480x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x960 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x480 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x480 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x480 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ValuesIdeal.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S128x5x96x5120 : Shape := ⟨4, ![128, 5, 96, 5120]⟩
abbrev S128x480x5120 : Shape := ⟨3, ![128, 480, 5120]⟩
abbrev S5x3x128x5120 : Shape := ⟨4, ![5, 3, 128, 5120]⟩
abbrev S15x128x5120 : Shape := ⟨3, ![15, 128, 5120]⟩
abbrev S128x960 : Shape := ⟨2, ![128, 960]⟩
abbrev S128x480 : Shape := ⟨2, ![128, 480]⟩
abbrev S128x1 : Shape := ⟨2, ![128, 1]⟩
abbrev S128x128 : Shape := ⟨2, ![128, 128]⟩
abbrev S128x16x480 : Shape := ⟨3, ![128, 16, 480]⟩
abbrev S10x8x5120 : Shape := ⟨3, ![10, 8, 5120]⟩
abbrev S15x8x5120 : Shape := ⟨3, ![15, 8, 5120]⟩
abbrev S1x480x5120 : Shape := ⟨3, ![1, 480, 5120]⟩
abbrev S8x960 : Shape := ⟨2, ![8, 960]⟩
abbrev S8x480 : Shape := ⟨2, ![8, 480]⟩
abbrev S8x128 : Shape := ⟨2, ![8, 128]⟩
abbrev S1x16x480 : Shape := ⟨3, ![1, 16, 480]⟩
abbrev S8x8x5120 : Shape := ⟨3, ![8, 8, 5120]⟩
abbrev S8x8x2x5120 : Shape := ⟨4, ![8, 8, 2, 5120]⟩
abbrev S8x8x1x5120 : Shape := ⟨4, ![8, 8, 1, 5120]⟩
abbrev S15x8x2x5120 : Shape := ⟨4, ![15, 8, 2, 5120]⟩
abbrev S15x8x1x5120 : Shape := ⟨4, ![15, 8, 1, 5120]⟩
abbrev S8x16x128 : Shape := ⟨3, ![8, 16, 128]⟩
abbrev S480x16 : Shape := ⟨2, ![480, 16]⟩
abbrev S8x5120 : Shape := ⟨2, ![8, 5120]⟩
abbrev S8x1 : Shape := ⟨2, ![8, 1]⟩
abbrev S8x96 : Shape := ⟨2, ![8, 96]⟩
abbrev S8 : Shape := ⟨1, ![8]⟩
abbrev S1x8x5120 : Shape := ⟨3, ![1, 8, 5120]⟩
abbrev S8x1x128 : Shape := ⟨3, ![8, 1, 128]⟩
abbrev S8x1x5120 : Shape := ⟨3, ![8, 1, 5120]⟩
abbrev S8x1x2x5120 : Shape := ⟨4, ![8, 1, 2, 5120]⟩
abbrev S8x1x1x5120 : Shape := ⟨4, ![8, 1, 1, 5120]⟩
abbrev S1x8x2x5120 : Shape := ⟨4, ![1, 8, 2, 5120]⟩
abbrev S1x8x1x5120 : Shape := ⟨4, ![1, 8, 1, 5120]⟩
abbrev S1 : Shape := ⟨1, ![1]⟩
abbrev S1x32x1024 : Shape := ⟨3, ![1, 32, 1024]⟩
abbrev S32x1024 : Shape := ⟨2, ![32, 1024]⟩
abbrev S1x1x1024 : Shape := ⟨3, ![1, 1, 1024]⟩
abbrev S1x1x2x1024 : Shape := ⟨4, ![1, 1, 2, 1024]⟩
abbrev S1x1x1x1024 : Shape := ⟨4, ![1, 1, 1, 1024]⟩
abbrev S1x1024 : Shape := ⟨2, ![1, 1024]⟩
abbrev S16x1024 : Shape := ⟨2, ![16, 1024]⟩
abbrev S480x1024 : Shape := ⟨2, ![480, 1024]⟩
abbrev S1x8x1024 : Shape := ⟨3, ![1, 8, 1024]⟩
abbrev S1x8x2x1024 : Shape := ⟨4, ![1, 8, 2, 1024]⟩
abbrev S1x8x1x1024 : Shape := ⟨4, ![1, 8, 1, 1024]⟩
abbrev S8x1024 : Shape := ⟨2, ![8, 1024]⟩
abbrev S16x480 : Shape := ⟨2, ![16, 480]⟩
abbrev S1x480 : Shape := ⟨2, ![1, 480]⟩
abbrev S1x16x128 : Shape := ⟨3, ![1, 16, 128]⟩
abbrev S16x128 : Shape := ⟨2, ![16, 128]⟩
abbrev S16x1 : Shape := ⟨2, ![16, 1]⟩

abbrev nBuf : Space → Nat
  | .hbm => 17
  | .vmem => 20
  | .smem => 1
  | _ => 0

abbrev bufTy : (tb : Table) → Fin (tcTables nBuf tb) → BufTy
  | .hbm, ⟨0, _⟩ => ⟨S128x1x960, .bf16⟩
  | .hbm, ⟨1, _⟩ => ⟨S128x1x5x96, .bf16⟩
  | .hbm, ⟨2, _⟩ => ⟨S128x1x5x96, .bf16⟩
  | .hbm, ⟨3, _⟩ => ⟨S10x128x5120, .f32⟩
  | .hbm, ⟨4, _⟩ => ⟨S128x5120x5x96, .i8⟩
  | .hbm, ⟨5, _⟩ => ⟨S128x5120x5x3, .f32⟩
  | .hbm, ⟨6, _⟩ => ⟨S128x5x96x5120, .i8⟩
  | .hbm, ⟨7, _⟩ => ⟨S128x480x5120, .i8⟩
  | .hbm, ⟨8, _⟩ => ⟨S5x3x128x5120, .f32⟩
  | .hbm, ⟨9, _⟩ => ⟨S15x128x5120, .f32⟩
  | .hbm, ⟨10, _⟩ => ⟨S128x960, .bf16⟩
  | .hbm, ⟨11, _⟩ => ⟨S128x480, .bf16⟩
  | .hbm, ⟨12, _⟩ => ⟨S128x480, .bf16⟩
  | .hbm, ⟨13, _⟩ => ⟨S128x480, .f32⟩
  | .hbm, ⟨14, _⟩ => ⟨S128x1, .i32⟩
  | .hbm, ⟨15, _⟩ => ⟨S128x128, .i32⟩
  | .hbm, ⟨16, _⟩ => ⟨S128x16x480, .f32⟩
  | .local _ .vmem, ⟨0, _⟩ => ⟨S10x8x5120, .f32⟩
  | .local _ .vmem, ⟨1, _⟩ => ⟨S10x8x5120, .f32⟩
  | .local _ .vmem, ⟨2, _⟩ => ⟨S15x8x5120, .f32⟩
  | .local _ .vmem, ⟨3, _⟩ => ⟨S15x8x5120, .f32⟩
  | .local _ .vmem, ⟨4, _⟩ => ⟨S1x480x5120, .i8⟩
  | .local _ .vmem, ⟨5, _⟩ => ⟨S1x480x5120, .i8⟩
  | .local _ .vmem, ⟨6, _⟩ => ⟨S8x960, .bf16⟩
  | .local _ .vmem, ⟨7, _⟩ => ⟨S8x960, .bf16⟩
  | .local _ .vmem, ⟨8, _⟩ => ⟨S8x480, .bf16⟩
  | .local _ .vmem, ⟨9, _⟩ => ⟨S8x480, .bf16⟩
  | .local _ .vmem, ⟨10, _⟩ => ⟨S8x480, .f32⟩
  | .local _ .vmem, ⟨11, _⟩ => ⟨S8x480, .f32⟩
  | .local _ .vmem, ⟨12, _⟩ => ⟨S8x128, .i32⟩
  | .local _ .vmem, ⟨13, _⟩ => ⟨S8x128, .i32⟩
  | .local _ .vmem, ⟨14, _⟩ => ⟨S1x16x480, .f32⟩
  | .local _ .vmem, ⟨15, _⟩ => ⟨S1x16x480, .f32⟩
  | .local _ .vmem, ⟨16, _⟩ => ⟨S8x8x2x5120, .bf16⟩
  | .local _ .vmem, ⟨17, _⟩ => ⟨S15x8x2x5120, .bf16⟩
  | .local _ .vmem, ⟨18, _⟩ => ⟨S8x16x128, .f32⟩
  | .local _ .vmem, ⟨19, _⟩ => ⟨S480x16, .f32⟩
  | .local _ .smem, ⟨0, _⟩ => ⟨S128, .i32⟩
  | _, _ => ⟨S128x1x960, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c8_i32 : BitVec 32 := 8#32
  let v12 : BitVec 32 := Scalar.muli arg0 c8_i32
  let arg1 : BitVec 32 := BitVec.ofNat 32 (i 1).val
  let v13 : BitVec 32 := Scalar.addi v12 arg1
  let v14 : Index := Scalar.indexCast v13
  ![v14.toNat]
@[reducible] def k0_t1_loop (v15 : BitVec 32) : Scf.Loop 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_15 : BitVec 32 := 1#32
  ⟨c0_i32_13, v39, c1_i32_15⟩

def k0_mult1 (v15 : BitVec 32) (k0_t1 : Fin (k0_t1_loop v15).trips) : BitVec 32 :=
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  v56
def k0_off2 (v15 : BitVec 32) (k0_t1 : Fin (k0_t1_loop v15).trips) : Fin 3 → Nat :=
  let c0_26 : Index := 0#32
  let c0_27 : Index := 0#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v58 : Index := Scalar.indexCast v57
  ![0, 0, v58.toNat]
def k0_off3 (i : grid0.Coords) (v15 : BitVec 32) (k0_t1 : Fin (k0_t1_loop v15).trips) : Fin 4 → Nat :=
  let c0_28 : Index := 0#32
  let arg1 : BitVec 32 := BitVec.ofNat 32 (i 1).val
  let v62 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v63 : Index := Scalar.indexCast v57
  ![0, v62.toNat, 0, v63.toNat]
def k0_off4 (v15 : BitVec 32) (k0_t1 : Fin (k0_t1_loop v15).trips) : Fin 3 → Nat :=
  let c0_29 : Index := 0#32
  let c32 : Index := 32#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v69 : Index := Scalar.indexCast v57
  ![0, 32, v69.toNat]
def k0_off5 (i : grid0.Coords) (v15 : BitVec 32) (k0_t1 : Fin (k0_t1_loop v15).trips) : Fin 4 → Nat :=
  let c1 : Index := 1#32
  let arg1 : BitVec 32 := BitVec.ofNat 32 (i 1).val
  let v73 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v74 : Index := Scalar.indexCast v57
  ![1, v73.toNat, 0, v74.toNat]
def k0_off6 (v15 : BitVec 32) (k0_t1 : Fin (k0_t1_loop v15).trips) : Fin 3 → Nat :=
  let c0_30 : Index := 0#32
  let c64 : Index := 64#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v80 : Index := Scalar.indexCast v57
  ![0, 64, v80.toNat]
def k0_off7 (i : grid0.Coords) (v15 : BitVec 32) (k0_t1 : Fin (k0_t1_loop v15).trips) : Fin 4 → Nat :=
  let c2 : Index := 2#32
  let arg1 : BitVec 32 := BitVec.ofNat 32 (i 1).val
  let v84 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v85 : Index := Scalar.indexCast v57
  ![2, v84.toNat, 0, v85.toNat]
def k0_off8 (v15 : BitVec 32) (k0_t1 : Fin (k0_t1_loop v15).trips) : Fin 3 → Nat :=
  let c0_31 : Index := 0#32
  let c96 : Index := 96#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v91 : Index := Scalar.indexCast v57
  ![0, 96, v91.toNat]
def k0_off9 (i : grid0.Coords) (v15 : BitVec 32) (k0_t1 : Fin (k0_t1_loop v15).trips) : Fin 4 → Nat :=
  let c3 : Index := 3#32
  let arg1 : BitVec 32 := BitVec.ofNat 32 (i 1).val
  let v95 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v96 : Index := Scalar.indexCast v57
  ![3, v95.toNat, 0, v96.toNat]
def k0_off10 (v15 : BitVec 32) (k0_t1 : Fin (k0_t1_loop v15).trips) : Fin 3 → Nat :=
  let c0_32 : Index := 0#32
  let c128 : Index := 128#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v102 : Index := Scalar.indexCast v57
  ![0, 128, v102.toNat]
def k0_off11 (i : grid0.Coords) (v15 : BitVec 32) (k0_t1 : Fin (k0_t1_loop v15).trips) : Fin 4 → Nat :=
  let c4 : Index := 4#32
  let arg1 : BitVec 32 := BitVec.ofNat 32 (i 1).val
  let v106 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v107 : Index := Scalar.indexCast v57
  ![4, v106.toNat, 0, v107.toNat]
def k0_off12 (v15 : BitVec 32) (k0_t1 : Fin (k0_t1_loop v15).trips) : Fin 3 → Nat :=
  let c0_33 : Index := 0#32
  let c160 : Index := 160#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v113 : Index := Scalar.indexCast v57
  ![0, 160, v113.toNat]
def k0_off13 (i : grid0.Coords) (v15 : BitVec 32) (k0_t1 : Fin (k0_t1_loop v15).trips) : Fin 4 → Nat :=
  let c5 : Index := 5#32
  let arg1 : BitVec 32 := BitVec.ofNat 32 (i 1).val
  let v117 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v118 : Index := Scalar.indexCast v57
  ![5, v117.toNat, 0, v118.toNat]
def k0_off14 (v15 : BitVec 32) (k0_t1 : Fin (k0_t1_loop v15).trips) : Fin 3 → Nat :=
  let c0_34 : Index := 0#32
  let c192 : Index := 192#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v124 : Index := Scalar.indexCast v57
  ![0, 192, v124.toNat]
def k0_off15 (i : grid0.Coords) (v15 : BitVec 32) (k0_t1 : Fin (k0_t1_loop v15).trips) : Fin 4 → Nat :=
  let c6 : Index := 6#32
  let arg1 : BitVec 32 := BitVec.ofNat 32 (i 1).val
  let v128 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v129 : Index := Scalar.indexCast v57
  ![6, v128.toNat, 0, v129.toNat]
def k0_off16 (v15 : BitVec 32) (k0_t1 : Fin (k0_t1_loop v15).trips) : Fin 3 → Nat :=
  let c0_35 : Index := 0#32
  let c224 : Index := 224#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v135 : Index := Scalar.indexCast v57
  ![0, 224, v135.toNat]
def k0_off17 (i : grid0.Coords) (v15 : BitVec 32) (k0_t1 : Fin (k0_t1_loop v15).trips) : Fin 4 → Nat :=
  let c7 : Index := 7#32
  let arg1 : BitVec 32 := BitVec.ofNat 32 (i 1).val
  let v139 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v140 : Index := Scalar.indexCast v57
  ![7, v139.toNat, 0, v140.toNat]
def k0_off18 (v15 : BitVec 32) (k0_t1 : Fin (k0_t1_loop v15).trips) : Fin 3 → Nat :=
  let c0_36 : Index := 0#32
  let c256 : Index := 256#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v146 : Index := Scalar.indexCast v57
  ![0, 256, v146.toNat]
def k0_off19 (i : grid0.Coords) (v15 : BitVec 32) (k0_t1 : Fin (k0_t1_loop v15).trips) : Fin 4 → Nat :=
  let c8 : Index := 8#32
  let arg1 : BitVec 32 := BitVec.ofNat 32 (i 1).val
  let v150 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v151 : Index := Scalar.indexCast v57
  ![8, v150.toNat, 0, v151.toNat]
def k0_off20 (v15 : BitVec 32) (k0_t1 : Fin (k0_t1_loop v15).trips) : Fin 3 → Nat :=
  let c0_37 : Index := 0#32
  let c288 : Index := 288#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v157 : Index := Scalar.indexCast v57
  ![0, 288, v157.toNat]
def k0_off21 (i : grid0.Coords) (v15 : BitVec 32) (k0_t1 : Fin (k0_t1_loop v15).trips) : Fin 4 → Nat :=
  let c9 : Index := 9#32
  let arg1 : BitVec 32 := BitVec.ofNat 32 (i 1).val
  let v161 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v162 : Index := Scalar.indexCast v57
  ![9, v161.toNat, 0, v162.toNat]
def k0_off22 (v15 : BitVec 32) (k0_t1 : Fin (k0_t1_loop v15).trips) : Fin 3 → Nat :=
  let c0_38 : Index := 0#32
  let c320 : Index := 320#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v168 : Index := Scalar.indexCast v57
  ![0, 320, v168.toNat]
def k0_off23 (i : grid0.Coords) (v15 : BitVec 32) (k0_t1 : Fin (k0_t1_loop v15).trips) : Fin 4 → Nat :=
  let c10 : Index := 10#32
  let arg1 : BitVec 32 := BitVec.ofNat 32 (i 1).val
  let v172 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v173 : Index := Scalar.indexCast v57
  ![10, v172.toNat, 0, v173.toNat]
def k0_off24 (v15 : BitVec 32) (k0_t1 : Fin (k0_t1_loop v15).trips) : Fin 3 → Nat :=
  let c0_39 : Index := 0#32
  let c352 : Index := 352#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v179 : Index := Scalar.indexCast v57
  ![0, 352, v179.toNat]
def k0_off25 (i : grid0.Coords) (v15 : BitVec 32) (k0_t1 : Fin (k0_t1_loop v15).trips) : Fin 4 → Nat :=
  let c11 : Index := 11#32
  let arg1 : BitVec 32 := BitVec.ofNat 32 (i 1).val
  let v183 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v184 : Index := Scalar.indexCast v57
  ![11, v183.toNat, 0, v184.toNat]
def k0_off26 (v15 : BitVec 32) (k0_t1 : Fin (k0_t1_loop v15).trips) : Fin 3 → Nat :=
  let c0_40 : Index := 0#32
  let c384 : Index := 384#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v190 : Index := Scalar.indexCast v57
  ![0, 384, v190.toNat]
def k0_off27 (i : grid0.Coords) (v15 : BitVec 32) (k0_t1 : Fin (k0_t1_loop v15).trips) : Fin 4 → Nat :=
  let c12 : Index := 12#32
  let arg1 : BitVec 32 := BitVec.ofNat 32 (i 1).val
  let v194 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v195 : Index := Scalar.indexCast v57
  ![12, v194.toNat, 0, v195.toNat]
def k0_off28 (v15 : BitVec 32) (k0_t1 : Fin (k0_t1_loop v15).trips) : Fin 3 → Nat :=
  let c0_41 : Index := 0#32
  let c416 : Index := 416#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v201 : Index := Scalar.indexCast v57
  ![0, 416, v201.toNat]
def k0_off29 (i : grid0.Coords) (v15 : BitVec 32) (k0_t1 : Fin (k0_t1_loop v15).trips) : Fin 4 → Nat :=
  let c13 : Index := 13#32
  let arg1 : BitVec 32 := BitVec.ofNat 32 (i 1).val
  let v205 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v206 : Index := Scalar.indexCast v57
  ![13, v205.toNat, 0, v206.toNat]
def k0_off30 (v15 : BitVec 32) (k0_t1 : Fin (k0_t1_loop v15).trips) : Fin 3 → Nat :=
  let c0_42 : Index := 0#32
  let c448 : Index := 448#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v212 : Index := Scalar.indexCast v57
  ![0, 448, v212.toNat]
def k0_off31 (i : grid0.Coords) (v15 : BitVec 32) (k0_t1 : Fin (k0_t1_loop v15).trips) : Fin 4 → Nat :=
  let c14 : Index := 14#32
  let arg1 : BitVec 32 := BitVec.ofNat 32 (i 1).val
  let v216 : Index := Scalar.indexCast arg1
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v217 : Index := Scalar.indexCast v57
  ![14, v216.toNat, 0, v217.toNat]
def k0_off32 (i : grid0.Coords) (v15 : BitVec 32) (k0_t1 : Fin (k0_t1_loop v15).trips) : Fin 4 → Nat :=
  let arg1 : BitVec 32 := BitVec.ofNat 32 (i 1).val
  let v224 : Index := Scalar.indexCast arg1
  let c0_43 : Index := 0#32
  let c0_i32_13 : BitVec 32 := 0#32
  let c1_i32_15 : BitVec 32 := 1#32
  let arg15 : BitVec 32 := Scf.iv c0_i32_13 c1_i32_15 k0_t1
  let c1024_i32_25 : BitVec 32 := 1024#32
  let v56 : BitVec 32 := Scalar.muli arg15 c1024_i32_25
  let v57 : BitVec 32 := v56
  let v225 : Index := Scalar.indexCast v57
  ![v224.toNat, 0, 0, v225.toNat]
@[reducible] def k0_t2_loop (v15 : BitVec 32) : Scf.Loop 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let v36 : BitVec 32 := Scalar.addi c0_i32_13 v35
  let c1_i32_16 : BitVec 32 := 1#32
  ⟨v39, v36, c1_i32_16⟩
def k0_mult2 (v15 : BitVec 32) (k0_t2 : Fin (k0_t2_loop v15).trips) : BitVec 32 :=
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  v56
def k0_off33 (v15 : BitVec 32) (k0_t2 : Fin (k0_t2_loop v15).trips) : Fin 3 → Nat :=
  let c0_26 : Index := 0#32
  let c0_27 : Index := 0#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v58 : Index := Scalar.indexCast v57
  ![0, 0, v58.toNat]
def k0_off34 (i : grid0.Coords) (v15 : BitVec 32) (k0_t2 : Fin (k0_t2_loop v15).trips) : Fin 4 → Nat :=
  let c0_28 : Index := 0#32
  let arg1 : BitVec 32 := BitVec.ofNat 32 (i 1).val
  let v62 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v63 : Index := Scalar.indexCast v57
  ![0, v62.toNat, 0, v63.toNat]
def k0_off35 (v15 : BitVec 32) (k0_t2 : Fin (k0_t2_loop v15).trips) : Fin 3 → Nat :=
  let c0_29 : Index := 0#32
  let c32 : Index := 32#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v69 : Index := Scalar.indexCast v57
  ![0, 32, v69.toNat]
def k0_off36 (i : grid0.Coords) (v15 : BitVec 32) (k0_t2 : Fin (k0_t2_loop v15).trips) : Fin 4 → Nat :=
  let c1 : Index := 1#32
  let arg1 : BitVec 32 := BitVec.ofNat 32 (i 1).val
  let v73 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v74 : Index := Scalar.indexCast v57
  ![1, v73.toNat, 0, v74.toNat]
def k0_off37 (v15 : BitVec 32) (k0_t2 : Fin (k0_t2_loop v15).trips) : Fin 3 → Nat :=
  let c0_30 : Index := 0#32
  let c64 : Index := 64#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v80 : Index := Scalar.indexCast v57
  ![0, 64, v80.toNat]
def k0_off38 (i : grid0.Coords) (v15 : BitVec 32) (k0_t2 : Fin (k0_t2_loop v15).trips) : Fin 4 → Nat :=
  let c2 : Index := 2#32
  let arg1 : BitVec 32 := BitVec.ofNat 32 (i 1).val
  let v84 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v85 : Index := Scalar.indexCast v57
  ![2, v84.toNat, 0, v85.toNat]
def k0_off39 (v15 : BitVec 32) (k0_t2 : Fin (k0_t2_loop v15).trips) : Fin 3 → Nat :=
  let c0_31 : Index := 0#32
  let c96 : Index := 96#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v91 : Index := Scalar.indexCast v57
  ![0, 96, v91.toNat]
def k0_off40 (i : grid0.Coords) (v15 : BitVec 32) (k0_t2 : Fin (k0_t2_loop v15).trips) : Fin 4 → Nat :=
  let c3 : Index := 3#32
  let arg1 : BitVec 32 := BitVec.ofNat 32 (i 1).val
  let v95 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v96 : Index := Scalar.indexCast v57
  ![3, v95.toNat, 0, v96.toNat]
def k0_off41 (v15 : BitVec 32) (k0_t2 : Fin (k0_t2_loop v15).trips) : Fin 3 → Nat :=
  let c0_32 : Index := 0#32
  let c128 : Index := 128#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v102 : Index := Scalar.indexCast v57
  ![0, 128, v102.toNat]
def k0_off42 (i : grid0.Coords) (v15 : BitVec 32) (k0_t2 : Fin (k0_t2_loop v15).trips) : Fin 4 → Nat :=
  let c4 : Index := 4#32
  let arg1 : BitVec 32 := BitVec.ofNat 32 (i 1).val
  let v106 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v107 : Index := Scalar.indexCast v57
  ![4, v106.toNat, 0, v107.toNat]
def k0_off43 (v15 : BitVec 32) (k0_t2 : Fin (k0_t2_loop v15).trips) : Fin 3 → Nat :=
  let c0_33 : Index := 0#32
  let c160 : Index := 160#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v113 : Index := Scalar.indexCast v57
  ![0, 160, v113.toNat]
def k0_off44 (i : grid0.Coords) (v15 : BitVec 32) (k0_t2 : Fin (k0_t2_loop v15).trips) : Fin 4 → Nat :=
  let c5 : Index := 5#32
  let arg1 : BitVec 32 := BitVec.ofNat 32 (i 1).val
  let v117 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v118 : Index := Scalar.indexCast v57
  ![5, v117.toNat, 0, v118.toNat]
def k0_off45 (v15 : BitVec 32) (k0_t2 : Fin (k0_t2_loop v15).trips) : Fin 3 → Nat :=
  let c0_34 : Index := 0#32
  let c192 : Index := 192#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v124 : Index := Scalar.indexCast v57
  ![0, 192, v124.toNat]
def k0_off46 (i : grid0.Coords) (v15 : BitVec 32) (k0_t2 : Fin (k0_t2_loop v15).trips) : Fin 4 → Nat :=
  let c6 : Index := 6#32
  let arg1 : BitVec 32 := BitVec.ofNat 32 (i 1).val
  let v128 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v129 : Index := Scalar.indexCast v57
  ![6, v128.toNat, 0, v129.toNat]
def k0_off47 (v15 : BitVec 32) (k0_t2 : Fin (k0_t2_loop v15).trips) : Fin 3 → Nat :=
  let c0_35 : Index := 0#32
  let c224 : Index := 224#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v135 : Index := Scalar.indexCast v57
  ![0, 224, v135.toNat]
def k0_off48 (i : grid0.Coords) (v15 : BitVec 32) (k0_t2 : Fin (k0_t2_loop v15).trips) : Fin 4 → Nat :=
  let c7 : Index := 7#32
  let arg1 : BitVec 32 := BitVec.ofNat 32 (i 1).val
  let v139 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v140 : Index := Scalar.indexCast v57
  ![7, v139.toNat, 0, v140.toNat]
def k0_off49 (v15 : BitVec 32) (k0_t2 : Fin (k0_t2_loop v15).trips) : Fin 3 → Nat :=
  let c0_36 : Index := 0#32
  let c256 : Index := 256#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v146 : Index := Scalar.indexCast v57
  ![0, 256, v146.toNat]
def k0_off50 (i : grid0.Coords) (v15 : BitVec 32) (k0_t2 : Fin (k0_t2_loop v15).trips) : Fin 4 → Nat :=
  let c8 : Index := 8#32
  let arg1 : BitVec 32 := BitVec.ofNat 32 (i 1).val
  let v150 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v151 : Index := Scalar.indexCast v57
  ![8, v150.toNat, 0, v151.toNat]
def k0_off51 (v15 : BitVec 32) (k0_t2 : Fin (k0_t2_loop v15).trips) : Fin 3 → Nat :=
  let c0_37 : Index := 0#32
  let c288 : Index := 288#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v157 : Index := Scalar.indexCast v57
  ![0, 288, v157.toNat]
def k0_off52 (i : grid0.Coords) (v15 : BitVec 32) (k0_t2 : Fin (k0_t2_loop v15).trips) : Fin 4 → Nat :=
  let c9 : Index := 9#32
  let arg1 : BitVec 32 := BitVec.ofNat 32 (i 1).val
  let v161 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v162 : Index := Scalar.indexCast v57
  ![9, v161.toNat, 0, v162.toNat]
def k0_off53 (v15 : BitVec 32) (k0_t2 : Fin (k0_t2_loop v15).trips) : Fin 3 → Nat :=
  let c0_38 : Index := 0#32
  let c320 : Index := 320#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v168 : Index := Scalar.indexCast v57
  ![0, 320, v168.toNat]
def k0_off54 (i : grid0.Coords) (v15 : BitVec 32) (k0_t2 : Fin (k0_t2_loop v15).trips) : Fin 4 → Nat :=
  let c10 : Index := 10#32
  let arg1 : BitVec 32 := BitVec.ofNat 32 (i 1).val
  let v172 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v173 : Index := Scalar.indexCast v57
  ![10, v172.toNat, 0, v173.toNat]
def k0_off55 (v15 : BitVec 32) (k0_t2 : Fin (k0_t2_loop v15).trips) : Fin 3 → Nat :=
  let c0_39 : Index := 0#32
  let c352 : Index := 352#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v179 : Index := Scalar.indexCast v57
  ![0, 352, v179.toNat]
def k0_off56 (i : grid0.Coords) (v15 : BitVec 32) (k0_t2 : Fin (k0_t2_loop v15).trips) : Fin 4 → Nat :=
  let c11 : Index := 11#32
  let arg1 : BitVec 32 := BitVec.ofNat 32 (i 1).val
  let v183 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v184 : Index := Scalar.indexCast v57
  ![11, v183.toNat, 0, v184.toNat]
def k0_off57 (v15 : BitVec 32) (k0_t2 : Fin (k0_t2_loop v15).trips) : Fin 3 → Nat :=
  let c0_40 : Index := 0#32
  let c384 : Index := 384#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v190 : Index := Scalar.indexCast v57
  ![0, 384, v190.toNat]
def k0_off58 (i : grid0.Coords) (v15 : BitVec 32) (k0_t2 : Fin (k0_t2_loop v15).trips) : Fin 4 → Nat :=
  let c12 : Index := 12#32
  let arg1 : BitVec 32 := BitVec.ofNat 32 (i 1).val
  let v194 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v195 : Index := Scalar.indexCast v57
  ![12, v194.toNat, 0, v195.toNat]
def k0_off59 (v15 : BitVec 32) (k0_t2 : Fin (k0_t2_loop v15).trips) : Fin 3 → Nat :=
  let c0_41 : Index := 0#32
  let c416 : Index := 416#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v201 : Index := Scalar.indexCast v57
  ![0, 416, v201.toNat]
def k0_off60 (i : grid0.Coords) (v15 : BitVec 32) (k0_t2 : Fin (k0_t2_loop v15).trips) : Fin 4 → Nat :=
  let c13 : Index := 13#32
  let arg1 : BitVec 32 := BitVec.ofNat 32 (i 1).val
  let v205 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v206 : Index := Scalar.indexCast v57
  ![13, v205.toNat, 0, v206.toNat]
def k0_off61 (v15 : BitVec 32) (k0_t2 : Fin (k0_t2_loop v15).trips) : Fin 3 → Nat :=
  let c0_42 : Index := 0#32
  let c448 : Index := 448#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v212 : Index := Scalar.indexCast v57
  ![0, 448, v212.toNat]
def k0_off62 (i : grid0.Coords) (v15 : BitVec 32) (k0_t2 : Fin (k0_t2_loop v15).trips) : Fin 4 → Nat :=
  let c14 : Index := 14#32
  let arg1 : BitVec 32 := BitVec.ofNat 32 (i 1).val
  let v216 : Index := Scalar.indexCast arg1
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v217 : Index := Scalar.indexCast v57
  ![14, v216.toNat, 0, v217.toNat]
def k0_off63 (i : grid0.Coords) (v15 : BitVec 32) (k0_t2 : Fin (k0_t2_loop v15).trips) : Fin 4 → Nat :=
  let arg1 : BitVec 32 := BitVec.ofNat 32 (i 1).val
  let v224 : Index := Scalar.indexCast arg1
  let c0_43 : Index := 0#32
  let c0_i32_13 : BitVec 32 := 0#32
  let c1024_i32 : BitVec 32 := 1024#32
  let v16 : BitVec 32 := Scalar.addi v15 c1024_i32
  let c1_i32 : BitVec 32 := 1#32
  let v17 : BitVec 32 := Scalar.subi v16 c1_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c1024_i32_5 : BitVec 32 := 1024#32
  let c0_i32_8 : BitVec 32 := 0#32
  let v24 : BitVec 1 := Scalar.cmpi .sgt c1024_i32_5 c0_i32_8
  let v25 : BitVec 32 := Scalar.extui v24
  let c0_i32_9 : BitVec 32 := 0#32
  let v26 : BitVec 1 := Scalar.cmpi .slt c1024_i32_5 c0_i32_9
  let v27 : BitVec 32 := Scalar.extui v26
  let v28 : BitVec 32 := Scalar.subi v25 v27
  let v29 : BitVec 1 := Scalar.cmpi .ne v23 v28
  let v30 : BitVec 32 := Scalar.remsi v17 c1024_i32_5
  let c0_i32_10 : BitVec 32 := 0#32
  let v31 : BitVec 1 := Scalar.cmpi .ne v30 c0_i32_10
  let v32 : BitVec 1 := Scalar.andi v29 v31
  let v18 : BitVec 32 := Scalar.divsi v17 c1024_i32_5
  let c1_i32_11 : BitVec 32 := 1#32
  let v33 : BitVec 32 := Scalar.subi v18 c1_i32_11
  let v34 : BitVec 32 := Scalar.select v32 v33 v18
  let v35 : BitVec 32 := Scalar.subi v34 c0_i32_13
  let c1_i32_14 : BitVec 32 := 1#32
  let v37 : BitVec 32 := Scalar.divsi v35 c1_i32_14
  let v38 : BitVec 32 := Scalar.muli v37 c1_i32_14
  let v39 : BitVec 32 := Scalar.addi c0_i32_13 v38
  let c1_i32_16 : BitVec 32 := 1#32
  let arg15 : BitVec 32 := Scf.iv v39 c1_i32_16 k0_t2
  let c1024_i32_25 : BitVec 32 := 1024#32
  let v56 : BitVec 32 := Scalar.muli arg15 c1024_i32_25
  let v57 : BitVec 32 := v56
  let v225 : Index := Scalar.indexCast v57
  ![v224.toNat, 0, 0, v225.toNat]

def k0_chk1_0 (i : grid0.Coords) (v15 : BitVec 32) : Prop :=
  ((k0_t1_loop v15).OK) ∧
  (∀ k0_t1 : Fin (k0_t1_loop v15).trips, 1024 ∣ (k0_mult1 v15 k0_t1).toNat) ∧
  (∀ k0_t1 : Fin (k0_t1_loop v15).trips, ∀ a, (k0_off2 v15 k0_t1) a + S1x32x1024.size a ≤ S1x480x5120.size a) ∧
  (∀ k0_t1 : Fin (k0_t1_loop v15).trips, ∀ a, (k0_off3 i v15 k0_t1) a + S1x1x2x1024.size a ≤ S15x8x2x5120.size a) ∧
  (∀ k0_t1 : Fin (k0_t1_loop v15).trips, ∀ a, (k0_off4 v15 k0_t1) a + S1x32x1024.size a ≤ S1x480x5120.size a) ∧
  (∀ k0_t1 : Fin (k0_t1_loop v15).trips, ∀ a, (k0_off5 i v15 k0_t1) a + S1x1x2x1024.size a ≤ S15x8x2x5120.size a) ∧
  (∀ k0_t1 : Fin (k0_t1_loop v15).trips, ∀ a, (k0_off6 v15 k0_t1) a + S1x32x1024.size a ≤ S1x480x5120.size a) ∧
  (∀ k0_t1 : Fin (k0_t1_loop v15).trips, ∀ a, (k0_off7 i v15 k0_t1) a + S1x1x2x1024.size a ≤ S15x8x2x5120.size a) ∧
  (∀ k0_t1 : Fin (k0_t1_loop v15).trips, ∀ a, (k0_off8 v15 k0_t1) a + S1x32x1024.size a ≤ S1x480x5120.size a) ∧
  (∀ k0_t1 : Fin (k0_t1_loop v15).trips, ∀ a, (k0_off9 i v15 k0_t1) a + S1x1x2x1024.size a ≤ S15x8x2x5120.size a) ∧
  (∀ k0_t1 : Fin (k0_t1_loop v15).trips, ∀ a, (k0_off10 v15 k0_t1) a + S1x32x1024.size a ≤ S1x480x5120.size a) ∧
  (∀ k0_t1 : Fin (k0_t1_loop v15).trips, ∀ a, (k0_off11 i v15 k0_t1) a + S1x1x2x1024.size a ≤ S15x8x2x5120.size a) ∧
  (∀ k0_t1 : Fin (k0_t1_loop v15).trips, ∀ a, (k0_off12 v15 k0_t1) a + S1x32x1024.size a ≤ S1x480x5120.size a) ∧
  (∀ k0_t1 : Fin (k0_t1_loop v15).trips, ∀ a, (k0_off13 i v15 k0_t1) a + S1x1x2x1024.size a ≤ S15x8x2x5120.size a) ∧
  (∀ k0_t1 : Fin (k0_t1_loop v15).trips, ∀ a, (k0_off14 v15 k0_t1) a + S1x32x1024.size a ≤ S1x480x5120.size a) ∧
  (∀ k0_t1 : Fin (k0_t1_loop v15).trips, ∀ a, (k0_off15 i v15 k0_t1) a + S1x1x2x1024.size a ≤ S15x8x2x5120.size a) ∧
  (∀ k0_t1 : Fin (k0_t1_loop v15).trips, ∀ a, (k0_off16 v15 k0_t1) a + S1x32x1024.size a ≤ S1x480x5120.size a) ∧
  (∀ k0_t1 : Fin (k0_t1_loop v15).trips, ∀ a, (k0_off17 i v15 k0_t1) a + S1x1x2x1024.size a ≤ S15x8x2x5120.size a) ∧
  (∀ k0_t1 : Fin (k0_t1_loop v15).trips, ∀ a, (k0_off18 v15 k0_t1) a + S1x32x1024.size a ≤ S1x480x5120.size a) ∧
  (∀ k0_t1 : Fin (k0_t1_loop v15).trips, ∀ a, (k0_off19 i v15 k0_t1) a + S1x1x2x1024.size a ≤ S15x8x2x5120.size a) ∧
  (∀ k0_t1 : Fin (k0_t1_loop v15).trips, ∀ a, (k0_off20 v15 k0_t1) a + S1x32x1024.size a ≤ S1x480x5120.size a) ∧
  (∀ k0_t1 : Fin (k0_t1_loop v15).trips, ∀ a, (k0_off21 i v15 k0_t1) a + S1x1x2x1024.size a ≤ S15x8x2x5120.size a) ∧
  (∀ k0_t1 : Fin (k0_t1_loop v15).trips, ∀ a, (k0_off22 v15 k0_t1) a + S1x32x1024.size a ≤ S1x480x5120.size a) ∧
  (∀ k0_t1 : Fin (k0_t1_loop v15).trips, ∀ a, (k0_off23 i v15 k0_t1) a + S1x1x2x1024.size a ≤ S15x8x2x5120.size a) ∧
  (∀ k0_t1 : Fin (k0_t1_loop v15).trips, ∀ a, (k0_off24 v15 k0_t1) a + S1x32x1024.size a ≤ S1x480x5120.size a) ∧
  (∀ k0_t1 : Fin (k0_t1_loop v15).trips, ∀ a, (k0_off25 i v15 k0_t1) a + S1x1x2x1024.size a ≤ S15x8x2x5120.size a) ∧
  (∀ k0_t1 : Fin (k0_t1_loop v15).trips, ∀ a, (k0_off26 v15 k0_t1) a + S1x32x1024.size a ≤ S1x480x5120.size a) ∧
  (∀ k0_t1 : Fin (k0_t1_loop v15).trips, ∀ a, (k0_off27 i v15 k0_t1) a + S1x1x2x1024.size a ≤ S15x8x2x5120.size a) ∧
  (∀ k0_t1 : Fin (k0_t1_loop v15).trips, ∀ a, (k0_off28 v15 k0_t1) a + S1x32x1024.size a ≤ S1x480x5120.size a) ∧
  (∀ k0_t1 : Fin (k0_t1_loop v15).trips, ∀ a, (k0_off29 i v15 k0_t1) a + S1x1x2x1024.size a ≤ S15x8x2x5120.size a) ∧
  (∀ k0_t1 : Fin (k0_t1_loop v15).trips, ∀ a, (k0_off30 v15 k0_t1) a + S1x32x1024.size a ≤ S1x480x5120.size a) ∧
  (∀ k0_t1 : Fin (k0_t1_loop v15).trips, ∀ a, (k0_off31 i v15 k0_t1) a + S1x1x2x1024.size a ≤ S15x8x2x5120.size a)
def k0_chk1_1 (i : grid0.Coords) (v15 : BitVec 32) : Prop :=
  (∀ k0_t1 : Fin (k0_t1_loop v15).trips, ∀ a, (k0_off32 i v15 k0_t1) a + S1x8x2x1024.size a ≤ S8x8x2x5120.size a) ∧
  ((k0_t2_loop v15).OK) ∧
  (∀ k0_t2 : Fin (k0_t2_loop v15).trips, 1024 ∣ (k0_mult2 v15 k0_t2).toNat) ∧
  (∀ k0_t2 : Fin (k0_t2_loop v15).trips, ∀ a, (k0_off33 v15 k0_t2) a + S1x32x1024.size a ≤ S1x480x5120.size a) ∧
  (∀ k0_t2 : Fin (k0_t2_loop v15).trips, ∀ a, (k0_off34 i v15 k0_t2) a + S1x1x2x1024.size a ≤ S15x8x2x5120.size a) ∧
  (∀ k0_t2 : Fin (k0_t2_loop v15).trips, ∀ a, (k0_off35 v15 k0_t2) a + S1x32x1024.size a ≤ S1x480x5120.size a) ∧
  (∀ k0_t2 : Fin (k0_t2_loop v15).trips, ∀ a, (k0_off36 i v15 k0_t2) a + S1x1x2x1024.size a ≤ S15x8x2x5120.size a) ∧
  (∀ k0_t2 : Fin (k0_t2_loop v15).trips, ∀ a, (k0_off37 v15 k0_t2) a + S1x32x1024.size a ≤ S1x480x5120.size a) ∧
  (∀ k0_t2 : Fin (k0_t2_loop v15).trips, ∀ a, (k0_off38 i v15 k0_t2) a + S1x1x2x1024.size a ≤ S15x8x2x5120.size a) ∧
  (∀ k0_t2 : Fin (k0_t2_loop v15).trips, ∀ a, (k0_off39 v15 k0_t2) a + S1x32x1024.size a ≤ S1x480x5120.size a) ∧
  (∀ k0_t2 : Fin (k0_t2_loop v15).trips, ∀ a, (k0_off40 i v15 k0_t2) a + S1x1x2x1024.size a ≤ S15x8x2x5120.size a) ∧
  (∀ k0_t2 : Fin (k0_t2_loop v15).trips, ∀ a, (k0_off41 v15 k0_t2) a + S1x32x1024.size a ≤ S1x480x5120.size a) ∧
  (∀ k0_t2 : Fin (k0_t2_loop v15).trips, ∀ a, (k0_off42 i v15 k0_t2) a + S1x1x2x1024.size a ≤ S15x8x2x5120.size a) ∧
  (∀ k0_t2 : Fin (k0_t2_loop v15).trips, ∀ a, (k0_off43 v15 k0_t2) a + S1x32x1024.size a ≤ S1x480x5120.size a) ∧
  (∀ k0_t2 : Fin (k0_t2_loop v15).trips, ∀ a, (k0_off44 i v15 k0_t2) a + S1x1x2x1024.size a ≤ S15x8x2x5120.size a) ∧
  (∀ k0_t2 : Fin (k0_t2_loop v15).trips, ∀ a, (k0_off45 v15 k0_t2) a + S1x32x1024.size a ≤ S1x480x5120.size a) ∧
  (∀ k0_t2 : Fin (k0_t2_loop v15).trips, ∀ a, (k0_off46 i v15 k0_t2) a + S1x1x2x1024.size a ≤ S15x8x2x5120.size a) ∧
  (∀ k0_t2 : Fin (k0_t2_loop v15).trips, ∀ a, (k0_off47 v15 k0_t2) a + S1x32x1024.size a ≤ S1x480x5120.size a) ∧
  (∀ k0_t2 : Fin (k0_t2_loop v15).trips, ∀ a, (k0_off48 i v15 k0_t2) a + S1x1x2x1024.size a ≤ S15x8x2x5120.size a) ∧
  (∀ k0_t2 : Fin (k0_t2_loop v15).trips, ∀ a, (k0_off49 v15 k0_t2) a + S1x32x1024.size a ≤ S1x480x5120.size a) ∧
  (∀ k0_t2 : Fin (k0_t2_loop v15).trips, ∀ a, (k0_off50 i v15 k0_t2) a + S1x1x2x1024.size a ≤ S15x8x2x5120.size a) ∧
  (∀ k0_t2 : Fin (k0_t2_loop v15).trips, ∀ a, (k0_off51 v15 k0_t2) a + S1x32x1024.size a ≤ S1x480x5120.size a) ∧
  (∀ k0_t2 : Fin (k0_t2_loop v15).trips, ∀ a, (k0_off52 i v15 k0_t2) a + S1x1x2x1024.size a ≤ S15x8x2x5120.size a) ∧
  (∀ k0_t2 : Fin (k0_t2_loop v15).trips, ∀ a, (k0_off53 v15 k0_t2) a + S1x32x1024.size a ≤ S1x480x5120.size a) ∧
  (∀ k0_t2 : Fin (k0_t2_loop v15).trips, ∀ a, (k0_off54 i v15 k0_t2) a + S1x1x2x1024.size a ≤ S15x8x2x5120.size a) ∧
  (∀ k0_t2 : Fin (k0_t2_loop v15).trips, ∀ a, (k0_off55 v15 k0_t2) a + S1x32x1024.size a ≤ S1x480x5120.size a) ∧
  (∀ k0_t2 : Fin (k0_t2_loop v15).trips, ∀ a, (k0_off56 i v15 k0_t2) a + S1x1x2x1024.size a ≤ S15x8x2x5120.size a) ∧
  (∀ k0_t2 : Fin (k0_t2_loop v15).trips, ∀ a, (k0_off57 v15 k0_t2) a + S1x32x1024.size a ≤ S1x480x5120.size a) ∧
  (∀ k0_t2 : Fin (k0_t2_loop v15).trips, ∀ a, (k0_off58 i v15 k0_t2) a + S1x1x2x1024.size a ≤ S15x8x2x5120.size a) ∧
  (∀ k0_t2 : Fin (k0_t2_loop v15).trips, ∀ a, (k0_off59 v15 k0_t2) a + S1x32x1024.size a ≤ S1x480x5120.size a) ∧
  (∀ k0_t2 : Fin (k0_t2_loop v15).trips, ∀ a, (k0_off60 i v15 k0_t2) a + S1x1x2x1024.size a ≤ S15x8x2x5120.size a) ∧
  (∀ k0_t2 : Fin (k0_t2_loop v15).trips, ∀ a, (k0_off61 v15 k0_t2) a + S1x32x1024.size a ≤ S1x480x5120.size a)
def k0_chk1_2 (i : grid0.Coords) (v15 : BitVec 32) : Prop :=
  (∀ k0_t2 : Fin (k0_t2_loop v15).trips, ∀ a, (k0_off62 i v15 k0_t2) a + S1x1x2x1024.size a ≤ S15x8x2x5120.size a) ∧
  (∀ k0_t2 : Fin (k0_t2_loop v15).trips, ∀ a, (k0_off63 i v15 k0_t2) a + S1x8x2x1024.size a ≤ S8x8x2x5120.size a)
def k0_chk1 (i : grid0.Coords) (v15 : BitVec 32) : Prop :=
  k0_chk1_0 i v15 ∧
  k0_chk1_1 i v15 ∧
  k0_chk1_2 i v15
theorem k0_t1_ok : ∀ (i : grid0.Coords) (v15 : BitVec 32) (k0_hw1 : k0_chk1 i v15), (k0_t1_loop v15).OK := fun i v15 k0_hw1 => k0_hw1.1.1
theorem k0_mult1_dvd : ∀ (i : grid0.Coords) (v15 : BitVec 32) (k0_hw1 : k0_chk1 i v15) (k0_t1 : Fin (k0_t1_loop v15).trips), 1024 ∣ (k0_mult1 v15 k0_t1).toNat := fun i v15 k0_hw1 k0_t1 => k0_hw1.1.2.1 k0_t1
theorem k0_off2_inb : ∀ (i : grid0.Coords) (v15 : BitVec 32) (k0_hw1 : k0_chk1 i v15) (k0_t1 : Fin (k0_t1_loop v15).trips), ∀ a, (k0_off2 v15 k0_t1) a + S1x32x1024.size a ≤ S1x480x5120.size a := fun i v15 k0_hw1 k0_t1 => k0_hw1.1.2.2.1 k0_t1
theorem k0_off3_inb : ∀ (i : grid0.Coords) (v15 : BitVec 32) (k0_hw1 : k0_chk1 i v15) (k0_t1 : Fin (k0_t1_loop v15).trips), ∀ a, (k0_off3 i v15 k0_t1) a + S1x1x2x1024.size a ≤ S15x8x2x5120.size a := fun i v15 k0_hw1 k0_t1 => k0_hw1.1.2.2.2.1 k0_t1
theorem k0_off4_inb : ∀ (i : grid0.Coords) (v15 : BitVec 32) (k0_hw1 : k0_chk1 i v15) (k0_t1 : Fin (k0_t1_loop v15).trips), ∀ a, (k0_off4 v15 k0_t1) a + S1x32x1024.size a ≤ S1x480x5120.size a := fun i v15 k0_hw1 k0_t1 => k0_hw1.1.2.2.2.2.1 k0_t1
theorem k0_off5_inb : ∀ (i : grid0.Coords) (v15 : BitVec 32) (k0_hw1 : k0_chk1 i v15) (k0_t1 : Fin (k0_t1_loop v15).trips), ∀ a, (k0_off5 i v15 k0_t1) a + S1x1x2x1024.size a ≤ S15x8x2x5120.size a := fun i v15 k0_hw1 k0_t1 => k0_hw1.1.2.2.2.2.2.1 k0_t1
theorem k0_off6_inb : ∀ (i : grid0.Coords) (v15 : BitVec 32) (k0_hw1 : k0_chk1 i v15) (k0_t1 : Fin (k0_t1_loop v15).trips), ∀ a, (k0_off6 v15 k0_t1) a + S1x32x1024.size a ≤ S1x480x5120.size a := fun i v15 k0_hw1 k0_t1 => k0_hw1.1.2.2.2.2.2.2.1 k0_t1
theorem k0_off7_inb : ∀ (i : grid0.Coords) (v15 : BitVec 32) (k0_hw1 : k0_chk1 i v15) (k0_t1 : Fin (k0_t1_loop v15).trips), ∀ a, (k0_off7 i v15 k0_t1) a + S1x1x2x1024.size a ≤ S15x8x2x5120.size a := fun i v15 k0_hw1 k0_t1 => k0_hw1.1.2.2.2.2.2.2.2.1 k0_t1
theorem k0_off8_inb : ∀ (i : grid0.Coords) (v15 : BitVec 32) (k0_hw1 : k0_chk1 i v15) (k0_t1 : Fin (k0_t1_loop v15).trips), ∀ a, (k0_off8 v15 k0_t1) a + S1x32x1024.size a ≤ S1x480x5120.size a := fun i v15 k0_hw1 k0_t1 => k0_hw1.1.2.2.2.2.2.2.2.2.1 k0_t1
theorem k0_off9_inb : ∀ (i : grid0.Coords) (v15 : BitVec 32) (k0_hw1 : k0_chk1 i v15) (k0_t1 : Fin (k0_t1_loop v15).trips), ∀ a, (k0_off9 i v15 k0_t1) a + S1x1x2x1024.size a ≤ S15x8x2x5120.size a := fun i v15 k0_hw1 k0_t1 => k0_hw1.1.2.2.2.2.2.2.2.2.2.1 k0_t1
theorem k0_off10_inb : ∀ (i : grid0.Coords) (v15 : BitVec 32) (k0_hw1 : k0_chk1 i v15) (k0_t1 : Fin (k0_t1_loop v15).trips), ∀ a, (k0_off10 v15 k0_t1) a + S1x32x1024.size a ≤ S1x480x5120.size a := fun i v15 k0_hw1 k0_t1 => k0_hw1.1.2.2.2.2.2.2.2.2.2.2.1 k0_t1
theorem k0_off11_inb : ∀ (i : grid0.Coords) (v15 : BitVec 32) (k0_hw1 : k0_chk1 i v15) (k0_t1 : Fin (k0_t1_loop v15).trips), ∀ a, (k0_off11 i v15 k0_t1) a + S1x1x2x1024.size a ≤ S15x8x2x5120.size a := fun i v15 k0_hw1 k0_t1 => k0_hw1.1.2.2.2.2.2.2.2.2.2.2.2.1 k0_t1
theorem k0_off12_inb : ∀ (i : grid0.Coords) (v15 : BitVec 32) (k0_hw1 : k0_chk1 i v15) (k0_t1 : Fin (k0_t1_loop v15).trips), ∀ a, (k0_off12 v15 k0_t1) a + S1x32x1024.size a ≤ S1x480x5120.size a := fun i v15 k0_hw1 k0_t1 => k0_hw1.1.2.2.2.2.2.2.2.2.2.2.2.2.1 k0_t1
theorem k0_off13_inb : ∀ (i : grid0.Coords) (v15 : BitVec 32) (k0_hw1 : k0_chk1 i v15) (k0_t1 : Fin (k0_t1_loop v15).trips), ∀ a, (k0_off13 i v15 k0_t1) a + S1x1x2x1024.size a ≤ S15x8x2x5120.size a := fun i v15 k0_hw1 k0_t1 => k0_hw1.1.2.2.2.2.2.2.2.2.2.2.2.2.2.1 k0_t1
theorem k0_off14_inb : ∀ (i : grid0.Coords) (v15 : BitVec 32) (k0_hw1 : k0_chk1 i v15) (k0_t1 : Fin (k0_t1_loop v15).trips), ∀ a, (k0_off14 v15 k0_t1) a + S1x32x1024.size a ≤ S1x480x5120.size a := fun i v15 k0_hw1 k0_t1 => k0_hw1.1.2.2.2.2.2.2.2.2.2.2.2.2.2.2.1 k0_t1
theorem k0_off15_inb : ∀ (i : grid0.Coords) (v15 : BitVec 32) (k0_hw1 : k0_chk1 i v15) (k0_t1 : Fin (k0_t1_loop v15).trips), ∀ a, (k0_off15 i v15 k0_t1) a + S1x1x2x1024.size a ≤ S15x8x2x5120.size a := fun i v15 k0_hw1 k0_t1 => k0_hw1.1.2.2.2.2.2.2.2.2.2.2.2.2.2.2.2.1 k0_t1
theorem k0_off16_inb : ∀ (i : grid0.Coords) (v15 : BitVec 32) (k0_hw1 : k0_chk1 i v15) (k0_t1 : Fin (k0_t1_loop v15).trips), ∀ a, (k0_off16 v15 k0_t1) a + S1x32x1024.size a ≤ S1x480x5120.size a := fun i v15 k0_hw1 k0_t1 => k0_hw1.1.2.2.2.2.2.2.2.2.2.2.2.2.2.2.2.2.1 k0_t1
theorem k0_off17_inb : ∀ (i : grid0.Coords) (v15 : BitVec 32) (k0_hw1 : k0_chk1 i v15) (k0_t1 : Fin (k0_t1_loop v15).trips), ∀ a, (k0_off17 i v15 k0_t1) a + S1x1x2x1024.size a ≤ S15x8x2x5120.size a := fun i v15 k0_hw1 k0_t1 => k0_hw1.1.2.2.2.2.2.2.2.2.2.2.2.2.2.2.2.2.2.1 k0_t1
theorem k0_off18_inb : ∀ (i : grid0.Coords) (v15 : BitVec 32) (k0_hw1 : k0_chk1 i v15) (k0_t1 : Fin (k0_t1_loop v15).trips), ∀ a, (k0_off18 v15 k0_t1) a + S1x32x1024.size a ≤ S1x480x5120.size a := fun i v15 k0_hw1 k0_t1 => k0_hw1.1.2.2.2.2.2.2.2.2.2.2.2.2.2.2.2.2.2.2.1 k0_t1
theorem k0_off19_inb : ∀ (i : grid0.Coords) (v15 : BitVec 32) (k0_hw1 : k0_chk1 i v15) (k0_t1 : Fin (k0_t1_loop v15).trips), ∀ a, (k0_off19 i v15 k0_t1) a + S1x1x2x1024.size a ≤ S15x8x2x5120.size a := fun i v15 k0_hw1 k0_t1 => k0_hw1.1.2.2.2.2.2.2.2.2.2.2.2.2.2.2.2.2.2.2.2.1 k0_t1
theorem k0_off20_inb : ∀ (i : grid0.Coords) (v15 : BitVec 32) (k0_hw1 : k0_chk1 i v15) (k0_t1 : Fin (k0_t1_loop v15).trips), ∀ a, (k0_off20 v15 k0_t1) a + S1x32x1024.size a ≤ S1x480x5120.size a := fun i v15 k0_hw1 k0_t1 => k0_hw1.1.2.2.2.2.2.2.2.2.2.2.2.2.2.2.2.2.2.2.2.2.1 k0_t1
theorem k0_off21_inb : ∀ (i : grid0.Coords) (v15 : BitVec 32) (k0_hw1 : k0_chk1 i v15) (k0_t1 : Fin (k0_t1_loop v15).trips), ∀ a, (k0_off21 i v15 k0_t1) a + S1x1x2x1024.size a ≤ S15x8x2x5120.size a := fun i v15 k0_hw1 k0_t1 => k0_hw1.1.2.2.2.2.2.2.2.2.2.2.2.2.2.2.2.2.2.2.2.2.2.1 k0_t1
theorem k0_off22_inb : ∀ (i : grid0.Coords) (v15 : BitVec 32) (k0_hw1 : k0_chk1 i v15) (k0_t1 : Fin (k0_t1_loop v15).trips), ∀ a, (k0_off22 v15 k0_t1) a + S1x32x1024.size a ≤ S1x480x5120.size a := fun i v15 k0_hw1 k0_t1 => k0_hw1.1.2.2.2.2.2.2.2.2.2.2.2.2.2.2.2.2.2.2.2.2.2.2.1 k0_t1
theorem k0_off23_inb : ∀ (i : grid0.Coords) (v15 : BitVec 32) (k0_hw1 : k0_chk1 i v15) (k0_t1 : Fin (k0_t1_loop v15).trips), ∀ a, (k0_off23 i v15 k0_t1) a + S1x1x2x1024.size a ≤ S15x8x2x5120.size a := fun i v15 k0_hw1 k0_t1 => k0_hw1.1.2.2.2.2.2.2.2.2.2.2.2.2.2.2.2.2.2.2.2.2.2.2.2.1 k0_t1
theorem k0_off24_inb : ∀ (i : grid0.Coords) (v15 : BitVec 32) (k0_hw1 : k0_chk1 i v15) (k0_t1 : Fin (k0_t1_loop v15).trips), ∀ a, (k0_off24 v15 k0_t1) a + S1x32x1024.size a ≤ S1x480x5120.size a := fun i v15 k0_hw1 k0_t1 => k0_hw1.1.2.2.2.2.2.2.2.2.2.2.2.2.2.2.2.2.2.2.2.2.2.2.2.2.1 k0_t1
theorem k0_off25_inb : ∀ (i : grid0.Coords) (v15 : BitVec 32) (k0_hw1 : k0_chk1 i v15) (k0_t1 : Fin (k0_t1_loop v15).trips), ∀ a, (k0_off25 i v15 k0_t1) a + S1x1x2x1024.size a ≤ S15x8x2x5120.size a := fun i v15 k0_hw1 k0_t1 => k0_hw1.1.2.2.2.2.2.2.2.2.2.2.2.2.2.2.2.2.2.2.2.2.2.2.2.2.2.1 k0_t1
theorem k0_off26_inb : ∀ (i : grid0.Coords) (v15 : BitVec 32) (k0_hw1 : k0_chk1 i v15) (k0_t1 : Fin (k0_t1_loop v15).trips), ∀ a, (k0_off26 v15 k0_t1) a + S1x32x1024.size a ≤ S1x480x5120.size a := fun i v15 k0_hw1 k0_t1 => k0_hw1.1.2.2.2.2.2.2.2.2.2.2.2.2.2.2.2.2.2.2.2.2.2.2.2.2.2.2.1 k0_t1
theorem k0_off27_inb : ∀ (i : grid0.Coords) (v15 : BitVec 32) (k0_hw1 : k0_chk1 i v15) (k0_t1 : Fin (k0_t1_loop v15).trips), ∀ a, (k0_off27 i v15 k0_t1) a + S1x1x2x1024.size a ≤ S15x8x2x5120.size a := fun i v15 k0_hw1 k0_t1 => k0_hw1.1.2.2.2.2.2.2.2.2.2.2.2.2.2.2.2.2.2.2.2.2.2.2.2.2.2.2.2.1 k0_t1
theorem k0_off28_inb : ∀ (i : grid0.Coords) (v15 : BitVec 32) (k0_hw1 : k0_chk1 i v15) (k0_t1 : Fin (k0_t1_loop v15).trips), ∀ a, (k0_off28 v15 k0_t1) a + S1x32x1024.size a ≤ S1x480x5120.size a := fun i v15 k0_hw1 k0_t1 => k0_hw1.1.2.2.2.2.2.2.2.2.2.2.2.2.2.2.2.2.2.2.2.2.2.2.2.2.2.2.2.2.1 k0_t1
theorem k0_off29_inb : ∀ (i : grid0.Coords) (v15 : BitVec 32) (k0_hw1 : k0_chk1 i v15) (k0_t1 : Fin (k0_t1_loop v15).trips), ∀ a, (k0_off29 i v15 k0_t1) a + S1x1x2x1024.size a ≤ S15x8x2x5120.size a := fun i v15 k0_hw1 k0_t1 => k0_hw1.1.2.2.2.2.2.2.2.2.2.2.2.2.2.2.2.2.2.2.2.2.2.2.2.2.2.2.2.2.2.1 k0_t1
theorem k0_off30_inb : ∀ (i : grid0.Coords) (v15 : BitVec 32) (k0_hw1 : k0_chk1 i v15) (k0_t1 : Fin (k0_t1_loop v15).trips), ∀ a, (k0_off30 v15 k0_t1) a + S1x32x1024.size a ≤ S1x480x5120.size a := fun i v15 k0_hw1 k0_t1 => k0_hw1.1.2.2.2.2.2.2.2.2.2.2.2.2.2.2.2.2.2.2.2.2.2.2.2.2.2.2.2.2.2.2.1 k0_t1
theorem k0_off31_inb : ∀ (i : grid0.Coords) (v15 : BitVec 32) (k0_hw1 : k0_chk1 i v15) (k0_t1 : Fin (k0_t1_loop v15).trips), ∀ a, (k0_off31 i v15 k0_t1) a + S1x1x2x1024.size a ≤ S15x8x2x5120.size a := fun i v15 k0_hw1 k0_t1 => k0_hw1.1.2.2.2.2.2.2.2.2.2.2.2.2.2.2.2.2.2.2.2.2.2.2.2.2.2.2.2.2.2.2.2 k0_t1
theorem k0_off32_inb : ∀ (i : grid0.Coords) (v15 : BitVec 32) (k0_hw1 : k0_chk1 i v15) (k0_t1 : Fin (k0_t1_loop v15).trips), ∀ a, (k0_off32 i v15 k0_t1) a + S1x8x2x1024.size a ≤ S8x8x2x5120.size a := fun i v15 k0_hw1 k0_t1 => k0_hw1.2.1.1 k0_t1
theorem k0_t2_ok : ∀ (i : grid0.Coords) (v15 : BitVec 32) (k0_hw1 : k0_chk1 i v15), (k0_t2_loop v15).OK := fun i v15 k0_hw1 => k0_hw1.2.1.2.1
theorem k0_mult2_dvd : ∀ (i : grid0.Coords) (v15 : BitVec 32) (k0_hw1 : k0_chk1 i v15) (k0_t2 : Fin (k0_t2_loop v15).trips), 1024 ∣ (k0_mult2 v15 k0_t2).toNat := fun i v15 k0_hw1 k0_t2 => k0_hw1.2.1.2.2.1 k0_t2
theorem k0_off33_inb : ∀ (i : grid0.Coords) (v15 : BitVec 32) (k0_hw1 : k0_chk1 i v15) (k0_t2 : Fin (k0_t2_loop v15).trips), ∀ a, (k0_off33 v15 k0_t2) a + S1x32x1024.size a ≤ S1x480x5120.size a := fun i v15 k0_hw1 k0_t2 => k0_hw1.2.1.2.2.2.1 k0_t2
theorem k0_off34_inb : ∀ (i : grid0.Coords) (v15 : BitVec 32) (k0_hw1 : k0_chk1 i v15) (k0_t2 : Fin (k0_t2_loop v15).trips), ∀ a, (k0_off34 i v15 k0_t2) a + S1x1x2x1024.size a ≤ S15x8x2x5120.size a := fun i v15 k0_hw1 k0_t2 => k0_hw1.2.1.2.2.2.2.1 k0_t2
theorem k0_off35_inb : ∀ (i : grid0.Coords) (v15 : BitVec 32) (k0_hw1 : k0_chk1 i v15) (k0_t2 : Fin (k0_t2_loop v15).trips), ∀ a, (k0_off35 v15 k0_t2) a + S1x32x1024.size a ≤ S1x480x5120.size a := fun i v15 k0_hw1 k0_t2 => k0_hw1.2.1.2.2.2.2.2.1 k0_t2
theorem k0_off36_inb : ∀ (i : grid0.Coords) (v15 : BitVec 32) (k0_hw1 : k0_chk1 i v15) (k0_t2 : Fin (k0_t2_loop v15).trips), ∀ a, (k0_off36 i v15 k0_t2) a + S1x1x2x1024.size a ≤ S15x8x2x5120.size a := fun i v15 k0_hw1 k0_t2 => k0_hw1.2.1.2.2.2.2.2.2.1 k0_t2
theorem k0_off37_inb : ∀ (i : grid0.Coords) (v15 : BitVec 32) (k0_hw1 : k0_chk1 i v15) (k0_t2 : Fin (k0_t2_loop v15).trips), ∀ a, (k0_off37 v15 k0_t2) a + S1x32x1024.size a ≤ S1x480x5120.size a := fun i v15 k0_hw1 k0_t2 => k0_hw1.2.1.2.2.2.2.2.2.2.1 k0_t2
theorem k0_off38_inb : ∀ (i : grid0.Coords) (v15 : BitVec 32) (k0_hw1 : k0_chk1 i v15) (k0_t2 : Fin (k0_t2_loop v15).trips), ∀ a, (k0_off38 i v15 k0_t2) a + S1x1x2x1024.size a ≤ S15x8x2x5120.size a := fun i v15 k0_hw1 k0_t2 => k0_hw1.2.1.2.2.2.2.2.2.2.2.1 k0_t2
theorem k0_off39_inb : ∀ (i : grid0.Coords) (v15 : BitVec 32) (k0_hw1 : k0_chk1 i v15) (k0_t2 : Fin (k0_t2_loop v15).trips), ∀ a, (k0_off39 v15 k0_t2) a + S1x32x1024.size a ≤ S1x480x5120.size a := fun i v15 k0_hw1 k0_t2 => k0_hw1.2.1.2.2.2.2.2.2.2.2.2.1 k0_t2
theorem k0_off40_inb : ∀ (i : grid0.Coords) (v15 : BitVec 32) (k0_hw1 : k0_chk1 i v15) (k0_t2 : Fin (k0_t2_loop v15).trips), ∀ a, (k0_off40 i v15 k0_t2) a + S1x1x2x1024.size a ≤ S15x8x2x5120.size a := fun i v15 k0_hw1 k0_t2 => k0_hw1.2.1.2.2.2.2.2.2.2.2.2.2.1 k0_t2
theorem k0_off41_inb : ∀ (i : grid0.Coords) (v15 : BitVec 32) (k0_hw1 : k0_chk1 i v15) (k0_t2 : Fin (k0_t2_loop v15).trips), ∀ a, (k0_off41 v15 k0_t2) a + S1x32x1024.size a ≤ S1x480x5120.size a := fun i v15 k0_hw1 k0_t2 => k0_hw1.2.1.2.2.2.2.2.2.2.2.2.2.2.1 k0_t2
theorem k0_off42_inb : ∀ (i : grid0.Coords) (v15 : BitVec 32) (k0_hw1 : k0_chk1 i v15) (k0_t2 : Fin (k0_t2_loop v15).trips), ∀ a, (k0_off42 i v15 k0_t2) a + S1x1x2x1024.size a ≤ S15x8x2x5120.size a := fun i v15 k0_hw1 k0_t2 => k0_hw1.2.1.2.2.2.2.2.2.2.2.2.2.2.2.1 k0_t2
theorem k0_off43_inb : ∀ (i : grid0.Coords) (v15 : BitVec 32) (k0_hw1 : k0_chk1 i v15) (k0_t2 : Fin (k0_t2_loop v15).trips), ∀ a, (k0_off43 v15 k0_t2) a + S1x32x1024.size a ≤ S1x480x5120.size a := fun i v15 k0_hw1 k0_t2 => k0_hw1.2.1.2.2.2.2.2.2.2.2.2.2.2.2.2.1 k0_t2
theorem k0_off44_inb : ∀ (i : grid0.Coords) (v15 : BitVec 32) (k0_hw1 : k0_chk1 i v15) (k0_t2 : Fin (k0_t2_loop v15).trips), ∀ a, (k0_off44 i v15 k0_t2) a + S1x1x2x1024.size a ≤ S15x8x2x5120.size a := fun i v15 k0_hw1 k0_t2 => k0_hw1.2.1.2.2.2.2.2.2.2.2.2.2.2.2.2.2.1 k0_t2
theorem k0_off45_inb : ∀ (i : grid0.Coords) (v15 : BitVec 32) (k0_hw1 : k0_chk1 i v15) (k0_t2 : Fin (k0_t2_loop v15).trips), ∀ a, (k0_off45 v15 k0_t2) a + S1x32x1024.size a ≤ S1x480x5120.size a := fun i v15 k0_hw1 k0_t2 => k0_hw1.2.1.2.2.2.2.2.2.2.2.2.2.2.2.2.2.2.1 k0_t2
theorem k0_off46_inb : ∀ (i : grid0.Coords) (v15 : BitVec 32) (k0_hw1 : k0_chk1 i v15) (k0_t2 : Fin (k0_t2_loop v15).trips), ∀ a, (k0_off46 i v15 k0_t2) a + S1x1x2x1024.size a ≤ S15x8x2x5120.size a := fun i v15 k0_hw1 k0_t2 => k0_hw1.2.1.2.2.2.2.2.2.2.2.2.2.2.2.2.2.2.2.1 k0_t2
theorem k0_off47_inb : ∀ (i : grid0.Coords) (v15 : BitVec 32) (k0_hw1 : k0_chk1 i v15) (k0_t2 : Fin (k0_t2_loop v15).trips), ∀ a, (k0_off47 v15 k0_t2) a + S1x32x1024.size a ≤ S1x480x5120.size a := fun i v15 k0_hw1 k0_t2 => k0_hw1.2.1.2.2.2.2.2.2.2.2.2.2.2.2.2.2.2.2.2.1 k0_t2
theorem k0_off48_inb : ∀ (i : grid0.Coords) (v15 : BitVec 32) (k0_hw1 : k0_chk1 i v15) (k0_t2 : Fin (k0_t2_loop v15).trips), ∀ a, (k0_off48 i v15 k0_t2) a + S1x1x2x1024.size a ≤ S15x8x2x5120.size a := fun i v15 k0_hw1 k0_t2 => k0_hw1.2.1.2.2.2.2.2.2.2.2.2.2.2.2.2.2.2.2.2.2.1 k0_t2
theorem k0_off49_inb : ∀ (i : grid0.Coords) (v15 : BitVec 32) (k0_hw1 : k0_chk1 i v15) (k0_t2 : Fin (k0_t2_loop v15).trips), ∀ a, (k0_off49 v15 k0_t2) a + S1x32x1024.size a ≤ S1x480x5120.size a := fun i v15 k0_hw1 k0_t2 => k0_hw1.2.1.2.2.2.2.2.2.2.2.2.2.2.2.2.2.2.2.2.2.2.1 k0_t2
theorem k0_off50_inb : ∀ (i : grid0.Coords) (v15 : BitVec 32) (k0_hw1 : k0_chk1 i v15) (k0_t2 : Fin (k0_t2_loop v15).trips), ∀ a, (k0_off50 i v15 k0_t2) a + S1x1x2x1024.size a ≤ S15x8x2x5120.size a := fun i v15 k0_hw1 k0_t2 => k0_hw1.2.1.2.2.2.2.2.2.2.2.2.2.2.2.2.2.2.2.2.2.2.2.1 k0_t2
theorem k0_off51_inb : ∀ (i : grid0.Coords) (v15 : BitVec 32) (k0_hw1 : k0_chk1 i v15) (k0_t2 : Fin (k0_t2_loop v15).trips), ∀ a, (k0_off51 v15 k0_t2) a + S1x32x1024.size a ≤ S1x480x5120.size a := fun i v15 k0_hw1 k0_t2 => k0_hw1.2.1.2.2.2.2.2.2.2.2.2.2.2.2.2.2.2.2.2.2.2.2.2.1 k0_t2
theorem k0_off52_inb : ∀ (i : grid0.Coords) (v15 : BitVec 32) (k0_hw1 : k0_chk1 i v15) (k0_t2 : Fin (k0_t2_loop v15).trips), ∀ a, (k0_off52 i v15 k0_t2) a + S1x1x2x1024.size a ≤ S15x8x2x5120.size a := fun i v15 k0_hw1 k0_t2 => k0_hw1.2.1.2.2.2.2.2.2.2.2.2.2.2.2.2.2.2.2.2.2.2.2.2.2.1 k0_t2
theorem k0_off53_inb : ∀ (i : grid0.Coords) (v15 : BitVec 32) (k0_hw1 : k0_chk1 i v15) (k0_t2 : Fin (k0_t2_loop v15).trips), ∀ a, (k0_off53 v15 k0_t2) a + S1x32x1024.size a ≤ S1x480x5120.size a := fun i v15 k0_hw1 k0_t2 => k0_hw1.2.1.2.2.2.2.2.2.2.2.2.2.2.2.2.2.2.2.2.2.2.2.2.2.2.1 k0_t2
theorem k0_off54_inb : ∀ (i : grid0.Coords) (v15 : BitVec 32) (k0_hw1 : k0_chk1 i v15) (k0_t2 : Fin (k0_t2_loop v15).trips), ∀ a, (k0_off54 i v15 k0_t2) a + S1x1x2x1024.size a ≤ S15x8x2x5120.size a := fun i v15 k0_hw1 k0_t2 => k0_hw1.2.1.2.2.2.2.2.2.2.2.2.2.2.2.2.2.2.2.2.2.2.2.2.2.2.2.1 k0_t2
theorem k0_off55_inb : ∀ (i : grid0.Coords) (v15 : BitVec 32) (k0_hw1 : k0_chk1 i v15) (k0_t2 : Fin (k0_t2_loop v15).trips), ∀ a, (k0_off55 v15 k0_t2) a + S1x32x1024.size a ≤ S1x480x5120.size a := fun i v15 k0_hw1 k0_t2 => k0_hw1.2.1.2.2.2.2.2.2.2.2.2.2.2.2.2.2.2.2.2.2.2.2.2.2.2.2.2.1 k0_t2
theorem k0_off56_inb : ∀ (i : grid0.Coords) (v15 : BitVec 32) (k0_hw1 : k0_chk1 i v15) (k0_t2 : Fin (k0_t2_loop v15).trips), ∀ a, (k0_off56 i v15 k0_t2) a + S1x1x2x1024.size a ≤ S15x8x2x5120.size a := fun i v15 k0_hw1 k0_t2 => k0_hw1.2.1.2.2.2.2.2.2.2.2.2.2.2.2.2.2.2.2.2.2.2.2.2.2.2.2.2.2.1 k0_t2
theorem k0_off57_inb : ∀ (i : grid0.Coords) (v15 : BitVec 32) (k0_hw1 : k0_chk1 i v15) (k0_t2 : Fin (k0_t2_loop v15).trips), ∀ a, (k0_off57 v15 k0_t2) a + S1x32x1024.size a ≤ S1x480x5120.size a := fun i v15 k0_hw1 k0_t2 => k0_hw1.2.1.2.2.2.2.2.2.2.2.2.2.2.2.2.2.2.2.2.2.2.2.2.2.2.2.2.2.2.1 k0_t2
theorem k0_off58_inb : ∀ (i : grid0.Coords) (v15 : BitVec 32) (k0_hw1 : k0_chk1 i v15) (k0_t2 : Fin (k0_t2_loop v15).trips), ∀ a, (k0_off58 i v15 k0_t2) a + S1x1x2x1024.size a ≤ S15x8x2x5120.size a := fun i v15 k0_hw1 k0_t2 => k0_hw1.2.1.2.2.2.2.2.2.2.2.2.2.2.2.2.2.2.2.2.2.2.2.2.2.2.2.2.2.2.2.1 k0_t2
theorem k0_off59_inb : ∀ (i : grid0.Coords) (v15 : BitVec 32) (k0_hw1 : k0_chk1 i v15) (k0_t2 : Fin (k0_t2_loop v15).trips), ∀ a, (k0_off59 v15 k0_t2) a + S1x32x1024.size a ≤ S1x480x5120.size a := fun i v15 k0_hw1 k0_t2 => k0_hw1.2.1.2.2.2.2.2.2.2.2.2.2.2.2.2.2.2.2.2.2.2.2.2.2.2.2.2.2.2.2.2.1 k0_t2
theorem k0_off60_inb : ∀ (i : grid0.Coords) (v15 : BitVec 32) (k0_hw1 : k0_chk1 i v15) (k0_t2 : Fin (k0_t2_loop v15).trips), ∀ a, (k0_off60 i v15 k0_t2) a + S1x1x2x1024.size a ≤ S15x8x2x5120.size a := fun i v15 k0_hw1 k0_t2 => k0_hw1.2.1.2.2.2.2.2.2.2.2.2.2.2.2.2.2.2.2.2.2.2.2.2.2.2.2.2.2.2.2.2.2.1 k0_t2
theorem k0_off61_inb : ∀ (i : grid0.Coords) (v15 : BitVec 32) (k0_hw1 : k0_chk1 i v15) (k0_t2 : Fin (k0_t2_loop v15).trips), ∀ a, (k0_off61 v15 k0_t2) a + S1x32x1024.size a ≤ S1x480x5120.size a := fun i v15 k0_hw1 k0_t2 => k0_hw1.2.1.2.2.2.2.2.2.2.2.2.2.2.2.2.2.2.2.2.2.2.2.2.2.2.2.2.2.2.2.2.2.2 k0_t2
theorem k0_off62_inb : ∀ (i : grid0.Coords) (v15 : BitVec 32) (k0_hw1 : k0_chk1 i v15) (k0_t2 : Fin (k0_t2_loop v15).trips), ∀ a, (k0_off62 i v15 k0_t2) a + S1x1x2x1024.size a ≤ S15x8x2x5120.size a := fun i v15 k0_hw1 k0_t2 => k0_hw1.2.2.1 k0_t2
theorem k0_off63_inb : ∀ (i : grid0.Coords) (v15 : BitVec 32) (k0_hw1 : k0_chk1 i v15) (k0_t2 : Fin (k0_t2_loop v15).trips), ∀ a, (k0_off63 i v15 k0_t2) a + S1x8x2x1024.size a ≤ S8x8x2x5120.size a := fun i v15 k0_hw1 k0_t2 => k0_hw1.2.2.2 k0_t2

def k0_off64 (i : grid0.Coords) : Fin 2 → Nat :=
  let arg1 : BitVec 32 := BitVec.ofNat 32 (i 1).val
  let v42 : Index := Scalar.indexCast arg1
  let c0_19 : Index := 0#32
  ![v42.toNat, 0]
def k0_off65 (i : grid0.Coords) : Fin 3 → Nat :=
  let arg1 : BitVec 32 := BitVec.ofNat 32 (i 1).val
  let v45 : Index := Scalar.indexCast arg1
  let c0_20 : Index := 0#32
  let c0_21 : Index := 0#32
  ![v45.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S10x8x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S15x8x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x480x5120 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x960 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x480 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x480 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x16x480 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ValuesRefIdeal.lean ====
abbrev S128x1x960 : Shape := ⟨3, ![128, 1, 960]⟩
abbrev S128x1x5x96 : Shape := ⟨4, ![128, 1, 5, 96]⟩
abbrev S10x128x5120 : Shape := ⟨3, ![10, 128, 5120]⟩
abbrev S128x5120x5x96 : Shape := ⟨4, ![128, 5120, 5, 96]⟩
abbrev S128x5120x5x3 : Shape := ⟨4, ![128, 5120, 5, 3]⟩
abbrev S128 : Shape := ⟨1, ![128]⟩
abbrev S128x5120x10 : Shape := ⟨3, ![128, 5120, 10]⟩
abbrev S128x5120x5x2 : Shape := ⟨4, ![128, 5120, 5, 2]⟩
abbrev S5120 : Shape := ⟨1, ![5120]⟩
abbrev S1x5120 : Shape := ⟨2, ![1, 5120]⟩
abbrev S128x1 : Shape := ⟨2, ![128, 1]⟩
abbrev S128x5120 : Shape := ⟨2, ![128, 5120]⟩
abbrev S128x5120x1x1 : Shape := ⟨4, ![128, 5120, 1, 1]⟩
abbrev S_ : Shape := ⟨0, ![]⟩
abbrev S128x5x2x96 : Shape := ⟨4, ![128, 5, 2, 96]⟩
abbrev S128x5x96 : Shape := ⟨3, ![128, 5, 96]⟩
abbrev S128x5x2 : Shape := ⟨3, ![128, 5, 2]⟩
abbrev S128x1x5x2 : Shape := ⟨4, ![128, 1, 5, 2]⟩
abbrev S128x5120x5x3x32 : Shape := ⟨5, ![128, 5120, 5, 3, 32]⟩
abbrev S128x5120x5x3x1 : Shape := ⟨5, ![128, 5120, 5, 3, 1]⟩
abbrev S128x5x2x1 : Shape := ⟨4, ![128, 5, 2, 1]⟩
abbrev S128x5x1x96 : Shape := ⟨4, ![128, 5, 1, 96]⟩
abbrev S128x10x96 : Shape := ⟨3, ![128, 10, 96]⟩
abbrev S128x6x96 : Shape := ⟨3, ![128, 6, 96]⟩
abbrev S128x16x96 : Shape := ⟨3, ![128, 16, 96]⟩
abbrev S128x16x1x96 : Shape := ⟨4, ![128, 16, 1, 96]⟩
abbrev S128x16x5x96 : Shape := ⟨4, ![128, 16, 5, 96]⟩
abbrev S128x16x480 : Shape := ⟨3, ![128, 16, 480]⟩

abbrev nBuf : Space → Nat
  | .hbm => 71
  | .vmem => 0
  | .smem => 0
  | _ => 0

abbrev bufTy : (tb : Table) → Fin (tcTables nBuf tb) → BufTy
  | .hbm, ⟨0, _⟩ => ⟨S128x1x960, .bf16⟩
  | .hbm, ⟨1, _⟩ => ⟨S128x1x5x96, .bf16⟩
  | .hbm, ⟨2, _⟩ => ⟨S128x1x5x96, .bf16⟩
  | .hbm, ⟨3, _⟩ => ⟨S10x128x5120, .f32⟩
  | .hbm, ⟨4, _⟩ => ⟨S128x5120x5x96, .i8⟩
  | .hbm, ⟨5, _⟩ => ⟨S128x5120x5x3, .f32⟩
  | .hbm, ⟨6, _⟩ => ⟨S128, .i32⟩
  | .hbm, ⟨7, _⟩ => ⟨S128x5120x10, .f32⟩
  | .hbm, ⟨8, _⟩ => ⟨S128x5120x5x2, .f32⟩
  | .hbm, ⟨9, _⟩ => ⟨S5120, .i32⟩
  | .hbm, ⟨10, _⟩ => ⟨S1x5120, .i32⟩
  | .hbm, ⟨11, _⟩ => ⟨S128x1, .i32⟩
  | .hbm, ⟨12, _⟩ => ⟨S128x5120, .i32⟩
  | .hbm, ⟨13, _⟩ => ⟨S128x5120, .i32⟩
  | .hbm, ⟨14, _⟩ => ⟨S128x5120, .i1⟩
  | .hbm, ⟨15, _⟩ => ⟨S128x5120x1x1, .i1⟩
  | .hbm, ⟨16, _⟩ => ⟨S_, .f32⟩
  | .hbm, ⟨17, _⟩ => ⟨S_, .f32⟩
  | .hbm, ⟨18, _⟩ => ⟨S128x5120x5x2, .i1⟩
  | .hbm, ⟨19, _⟩ => ⟨S128x5120x5x2, .f32⟩
  | .hbm, ⟨20, _⟩ => ⟨S128x5120x5x2, .f32⟩
  | .hbm, ⟨21, _⟩ => ⟨S128x5x2x96, .bf16⟩
  | .hbm, ⟨22, _⟩ => ⟨S128x5x96, .bf16⟩
  | .hbm, ⟨23, _⟩ => ⟨S128x5x2, .f32⟩
  | .hbm, ⟨24, _⟩ => ⟨S_, .f32⟩
  | .hbm, ⟨25, _⟩ => ⟨S128x5x2, .f32⟩
  | .hbm, ⟨26, _⟩ => ⟨S128x5x2, .f32⟩
  | .hbm, ⟨27, _⟩ => ⟨S_, .f32⟩
  | .hbm, ⟨28, _⟩ => ⟨S128x5x2, .f32⟩
  | .hbm, ⟨29, _⟩ => ⟨S128x5x2, .f32⟩
  | .hbm, ⟨30, _⟩ => ⟨S128x1x5x2, .f32⟩
  | .hbm, ⟨31, _⟩ => ⟨S128x5120x5x2, .f32⟩
  | .hbm, ⟨32, _⟩ => ⟨S128x5120x5x2, .f32⟩
  | .hbm, ⟨33, _⟩ => ⟨S128x5120x5x2, .f32⟩
  | .hbm, ⟨34, _⟩ => ⟨S128x5x2, .f32⟩
  | .hbm, ⟨35, _⟩ => ⟨S128x5x2, .f32⟩
  | .hbm, ⟨36, _⟩ => ⟨S_, .f32⟩
  | .hbm, ⟨37, _⟩ => ⟨S128x5x2, .f32⟩
  | .hbm, ⟨38, _⟩ => ⟨S128x5x2, .f32⟩
  | .hbm, ⟨39, _⟩ => ⟨S128x1x5x2, .f32⟩
  | .hbm, ⟨40, _⟩ => ⟨S128x5120x5x2, .f32⟩
  | .hbm, ⟨41, _⟩ => ⟨S128x5120x5x2, .f32⟩
  | .hbm, ⟨42, _⟩ => ⟨S128x5x2, .f32⟩
  | .hbm, ⟨43, _⟩ => ⟨S128x5120x5x96, .i32⟩
  | .hbm, ⟨44, _⟩ => ⟨S128x5120x5x96, .f32⟩
  | .hbm, ⟨45, _⟩ => ⟨S128x5120x5x96, .bf16⟩
  | .hbm, ⟨46, _⟩ => ⟨S128x5120x5x3x32, .bf16⟩
  | .hbm, ⟨47, _⟩ => ⟨S128x5120x5x3, .bf16⟩
  | .hbm, ⟨48, _⟩ => ⟨S128x5120x5x3x1, .bf16⟩
  | .hbm, ⟨49, _⟩ => ⟨S128x5120x5x3x32, .bf16⟩
  | .hbm, ⟨50, _⟩ => ⟨S128x5120x5x3x32, .bf16⟩
  | .hbm, ⟨51, _⟩ => ⟨S128x5120x5x96, .bf16⟩
  | .hbm, ⟨52, _⟩ => ⟨S128x5120x5x2, .bf16⟩
  | .hbm, ⟨53, _⟩ => ⟨S128x5x2x96, .f32⟩
  | .hbm, ⟨54, _⟩ => ⟨S128x5x2, .bf16⟩
  | .hbm, ⟨55, _⟩ => ⟨S128x5x2, .f32⟩
  | .hbm, ⟨56, _⟩ => ⟨S128x5x2x1, .f32⟩
  | .hbm, ⟨57, _⟩ => ⟨S128x5x96, .bf16⟩
  | .hbm, ⟨58, _⟩ => ⟨S128x5x96, .f32⟩
  | .hbm, ⟨59, _⟩ => ⟨S128x5x1x96, .f32⟩
  | .hbm, ⟨60, _⟩ => ⟨S128x5x2x96, .f32⟩
  | .hbm, ⟨61, _⟩ => ⟨S128x5x2x96, .f32⟩
  | .hbm, ⟨62, _⟩ => ⟨S128x5x2x96, .f32⟩
  | .hbm, ⟨63, _⟩ => ⟨S128x5x2x96, .f32⟩
  | .hbm, ⟨64, _⟩ => ⟨S128x10x96, .f32⟩
  | .hbm, ⟨65, _⟩ => ⟨S_, .f32⟩
  | .hbm, ⟨66, _⟩ => ⟨S128x6x96, .f32⟩
  | .hbm, ⟨67, _⟩ => ⟨S128x16x96, .f32⟩
  | .hbm, ⟨68, _⟩ => ⟨S128x16x1x96, .f32⟩
  | .hbm, ⟨69, _⟩ => ⟨S128x16x5x96, .f32⟩
  | .hbm, ⟨70, _⟩ => ⟨S128x16x480, .f32⟩
  | _, _ => ⟨S128x1x960, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_3 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Proof.Words.lean ====
/- The word arithmetic of the two kernels' step counts (hand-written, untrusted): the printed floor division by a
   positive constant, read as a signed integer, is the integer quotient rounded down. -/
module

public import Idealize.ShloMosaic.Lib.LoopRemainder
public import Idealize.ShloMosaic.Lib.WordArith
public import Mathlib.Tactic.Linarith
public import Mathlib.Tactic.NormNum

@[expose] public section

namespace Cert.Words

open Idealize.ShloMosaic

/-- The floor division of words as jax prints it: the quotient rounded toward zero, less one where the signs differ and
    the remainder is not zero. -/
@[reducible] def floorDiv (x d : BitVec 32) : BitVec 32 :=
  Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt d 0#32)) (Scalar.extui (Scalar.cmpi .slt d 0#32))))
      (Scalar.cmpi .ne (Scalar.remsi x d) 0#32))
    (Scalar.subi (Scalar.divsi x d) 1#32) (Scalar.divsi x d)

theorem toInt_sdiv_pos (x d : BitVec 32) (hd : 1 < d.toInt) : (x.sdiv d).toInt = x.toInt.tdiv d.toInt := by
  rw [BitVec.toInt_sdiv]
  have h1 := BitVec.toInt_lt (x := x)
  have h2 := BitVec.le_toInt (x := x)
  norm_num at h1 h2
  have h3 := Int.natAbs_tdiv_le_natAbs x.toInt d.toInt
  have h5 : x.toInt.tdiv d.toInt < 2147483648 := by
    rcases le_or_gt 0 x.toInt with h | h
    · have := Int.tdiv_le_self (b := d.toInt) h
      omega
    · have h6 := Int.tdiv_nonneg (a := -x.toInt) (b := d.toInt) (by omega) (by omega)
      rw [Int.neg_tdiv] at h6
      omega
  have e : ((2 ^ 32 : ℕ) : ℤ) = 4294967296 := by norm_num
  have h4 : -2147483648 ≤ x.toInt.tdiv d.toInt := by omega
  apply Int.bmod_eq_of_le
  · rw [e]; omega
  · rw [e]; omega

theorem toInt_floorDiv (x d : BitVec 32) (hd : 1 < d.toInt) : (floorDiv x d).toInt = x.toInt / d.toInt := by
  have hdz : ¬ IntOp.SDivCorner x d := by
    rintro (h | h)
    · subst h; simp at hd
    · obtain ⟨_, h⟩ := h; subst h; simp at hd
  have hq : Scalar.divsi x d = x.sdiv d := by simp only [Scalar.divsi, IntOp.divsi, if_neg hdz]
  have hr : Scalar.remsi x d = x.srem d := by simp only [Scalar.remsi, IntOp.remsi, if_neg hdz]
  have hrz : (x.srem d = 0#32) ↔ x.toInt.tmod d.toInt = 0 := by
    rw [← BitVec.toInt_inj, BitVec.toInt_srem]; simp
  have hs : ∀ (a : BitVec 32), Scalar.subi (Scalar.extui (Scalar.cmpi .sgt a 0#32)) (Scalar.extui (Scalar.cmpi .slt a 0#32))
      = if 0 < a.toInt then 1#32 else if a.toInt < 0 then 4294967295#32 else 0#32 := by
    intro a
    simp only [Scalar.cmpi, IntOp.cmpi, BitVec.slt, BitVec.toInt_zero]
    by_cases h1 : 0 < a.toInt
    · have h2 : ¬ a.toInt < 0 := by omega
      simp only [h1, h2, decide_true, decide_false, if_true]; decide
    · by_cases h2 : a.toInt < 0
      · simp only [h1, h2, decide_true, decide_false, if_true, if_false]; decide
      · simp only [h1, h2, decide_false, if_false]; decide
  have hd0 : 0 < d.toInt := by omega
  have hm := Int.mul_tdiv_add_tmod x.toInt d.toInt
  have hm' := Int.mul_ediv_add_emod x.toInt d.toInt
  have he0 := Int.emod_nonneg x.toInt (b := d.toInt) (by omega)
  have he1 := Int.emod_lt_of_pos x.toInt hd0
  have hx1 := BitVec.toInt_lt (x := x)
  have hx2 := BitVec.le_toInt (x := x)
  unfold floorDiv
  rw [hs, hs, hq, hr, if_pos hd0]
  simp only [Scalar.cmpi, IntOp.cmpi, Scalar.andi, WordArith.andi_ofBool, Scalar.select]
  rcases le_or_gt 0 x.toInt with hx | hx
  · have hq0 : x.toInt.tdiv d.toInt = x.toInt / d.toInt := Int.tdiv_eq_ediv_of_nonneg hx
    rw [if_neg, toInt_sdiv_pos x d hd, hq0]
    rw [WordArith.ofBool_eq_numeral_one_iff]
    by_cases hx0 : 0 < x.toInt
    · simp [hx0]
    · have : x.toInt = 0 := by omega
      have hz : x.srem d = 0#32 := hrz.2 (by rw [this]; simp)
      simp [hz]
  · have hxn : ¬ 0 < x.toInt := by omega
    rw [if_neg hxn, if_pos hx]
    have key : x.toInt.tmod d.toInt = 0 ∧ x.toInt.tdiv d.toInt = x.toInt / d.toInt
        ∨ x.toInt.tmod d.toInt ≠ 0 ∧ x.toInt.tdiv d.toInt = x.toInt / d.toInt + 1 := by
      rcases em (x.toInt.tmod d.toInt = 0) with h | h
      · left
        refine ⟨h, ?_⟩
        rw [h, add_zero] at hm
        exact (Int.ediv_eq_of_eq_mul_right (by omega) hm.symm).symm
      · right
        refine ⟨h, ?_⟩
        rw [Int.tdiv_eq_ediv]
        have hnd : ¬ d.toInt ∣ x.toInt := fun hdv => h (Int.tmod_eq_zero_of_dvd hdv)
        have hsg : d.toInt.sign = 1 := Int.sign_eq_one_of_pos hd0
        rw [if_neg (by rintro (h | h) <;> [omega; exact hnd h]), hsg]
    rcases key with ⟨h, hk⟩ | ⟨h, hk⟩
    · have hz := hrz.2 h
      rw [if_neg (by rw [WordArith.ofBool_eq_numeral_one_iff]; simp [hz]), toInt_sdiv_pos x d hd, hk]
    · have hz : x.srem d ≠ 0#32 := fun hh => h (hrz.1 hh)
      rw [if_pos (by rw [WordArith.ofBool_eq_numeral_one_iff]; simp [hz])]
      have h1 : (1#32 : BitVec 32).toInt = 1 := by decide
      have hlow : -2 ^ 31 ≤ x.toInt / d.toInt := by
        have : x.toInt ≤ x.toInt / d.toInt := by
          nlinarith [mul_comm d.toInt (x.toInt / d.toInt), Int.ediv_neg_of_neg_of_pos hx hd0]
        norm_num at *; omega
      have hhi : x.toInt / d.toInt < 0 := Int.ediv_neg_of_neg_of_pos hx hd0
      have e := WordArith.toInt_sub_of_bounds (x.sdiv d) 1#32
        (by rw [toInt_sdiv_pos x d hd, hk, h1]; omega) (by rw [toInt_sdiv_pos x d hd, hk, h1]; omega)
      show (x.sdiv d - 1#32).toInt = _
      rw [e, toInt_sdiv_pos x d hd, hk, h1]; omega

/-- The number of blocks of `b` that hold the first `v` entries, as the kernels print it. -/
theorem toInt_ceil (v b : BitVec 32) (hb : 1 < b.toInt) (hb' : b.toInt ≤ 4096) (hv : v.toInt ≤ 5120) :
    (floorDiv (Scalar.subi (Scalar.addi v b) 1#32) b).toInt = (v.toInt + b.toInt - 1) / b.toInt := by
  have h1 : (1#32 : BitVec 32).toInt = 1 := by decide
  have h2 := BitVec.le_toInt (x := v)
  norm_num at h2
  have e1 : (v + b).toInt = v.toInt + b.toInt :=
    WordArith.toInt_add_of_bounds v b (by norm_num; omega) (by norm_num; omega)
  have e2 : (v + b - 1#32).toInt = v.toInt + b.toInt - 1 := by
    have := WordArith.toInt_sub_of_bounds (v + b) 1#32 (by rw [e1, h1]; norm_num; omega) (by rw [e1, h1]; norm_num; omega)
    rw [this, e1, h1]
  rw [toInt_floorDiv _ _ hb]
  show (v + b - 1#32).toInt / _ = _
  rw [e2]

/-- The upper bound of a loop over the blocks of `b` that hold the first `v` entries, as the kernels print it. -/
@[reducible] def blocksBound (v b : BitVec 32) : BitVec 32 :=
  Scalar.addi 0#32 (Scalar.muli (Scalar.divsi (Scalar.subi (floorDiv (Scalar.subi (Scalar.addi v b) 1#32) b) 0#32) 1#32) 1#32)

theorem toInt_blocksBound (v b : BitVec 32) (hb : 1 < b.toInt) (hb' : b.toInt ≤ 4096) (hv : v.toInt ≤ 5120) :
    (blocksBound v b).toInt = (v.toInt + b.toInt - 1) / b.toInt := by
  unfold blocksBound
  rw [Scalar.muli_divsi_one]
  have e : ∀ x : BitVec 32, Scalar.addi 0#32 (Scalar.subi x 0#32) = x := fun x => by
    show (0#32 + (x - 0#32) : BitVec 32) = x
    simp
  rw [e, toInt_ceil v b hb hb' hv]

/-- Such a loop makes one trip for each block. -/
theorem trips_blocks (v b : BitVec 32) (hb : 1 < b.toInt) (hb' : b.toInt ≤ 4096) (hv : v.toInt ≤ 5120) :
    Scf.trips 0#32 (blocksBound v b) 1#32 = ((v.toInt + b.toInt - 1) / b.toInt).toNat := by
  have h1 : (1#32 : BitVec 32).toInt = 1 := by decide
  have h0 : (0#32 : BitVec 32).toInt = 0 := by decide
  unfold Scf.trips
  rw [toInt_blocksBound v b hb hb' hv, h0, h1]
  simp

/-- Its counter stays inside the word. -/
theorem ok_blocks (v b : BitVec 32) (hb : 1 < b.toInt) (hb' : b.toInt ≤ 4096) (hv : v.toInt ≤ 5120) :
    Scf.OK 0#32 (blocksBound v b) 1#32 := by
  have h1 : (1#32 : BitVec 32).toInt = 1 := by decide
  have h0 : (0#32 : BitVec 32).toInt = 0 := by decide
  refine ⟨by decide, ?_⟩
  rw [trips_blocks v b hb hb' hv, h0, h1]
  have : (v.toInt + b.toInt - 1) / b.toInt ≤ v.toInt + b.toInt ∨ (v.toInt + b.toInt - 1) / b.toInt ≤ 0 := by
    rcases le_or_gt 0 (v.toInt + b.toInt - 1) with h | h
    · left
      have := Int.ediv_le_self b.toInt h
      omega
    · right
      exact le_of_lt (Int.ediv_neg_of_neg_of_pos h (by omega))
  norm_num
  omega

end Cert.Words
-- ==== Proof.ValuesPre.lean ====
/- The side conditions the Values kernel assumes, from the precondition (hand-written, untrusted): every cache length is
   at most 5120, so the loop over the blocks of 1024 positions makes at most five trips and stays inside the arrays. -/
module

public import proofs.«01_k».proof.Defs
public import proofs.«01_k».proof.Proof.Gen.Values.Frame
public import proofs.«01_k».proof.Proof.Words
public import proofs.«01_k».proof.Proof.Gen.Pre_fits
public import Mathlib.Tactic.IntervalCases
public import Mathlib.Tactic.FinCases
public import Idealize.ShloMosaic.Lib.ReduceAll

@[expose] public section

set_option maxRecDepth 16384

noncomputable section

namespace Cert.Values.Own

open Cert.Values Cert.Values.Gen
open Idealize.ShloMosaic Idealize.ShloMosaic.TcCoe

/-- The loop over the blocks of 1024 positions makes one trip for each block the cache length reaches. -/
theorem t1_trips (v : BitVec 32) (hv : v.toInt ≤ 5120) : (k0_t1_loop v).trips = ((v.toInt + 1023) / 1024).toNat := by
  have := Words.trips_blocks v 1024#32 (by decide) (by decide) hv
  rw [show (1024#32 : BitVec 32).toInt = 1024 from by decide] at this
  refine Eq.trans this ?_
  congr 1
  omega

theorem t1_lt (v : BitVec 32) (hv : v.toInt ≤ 5120) (k : Fin (k0_t1_loop v).trips) : k.val < 5 := by
  have := Nat.lt_of_lt_of_eq k.isLt (t1_trips v hv)
  omega

/-- The start of block `k`. -/
theorem block_start (k : ℕ) (hk : k < 5) : (Scalar.muli (Scf.iv 0#32 1#32 k) 1024#32).toNat = 1024 * k := by
  interval_cases k <;> decide

theorem no_t2 (v : BitVec 32) (k : Fin (k0_t2_loop v).trips) : False :=
  Scf.rem_no_trip _ _ k

theorem t2_trips (v : BitVec 32) : (k0_t2_loop v).trips = 0 := Scf.rem_trips _ _

theorem inb_codes {b s : ℕ} (hb : b + 32 ≤ 480) (hs : s + 1024 ≤ 5120) :
    ∀ x, (![0, b, s] : Fin 3 → ℕ) x + S1x32x1024.size x ≤ S1x480x5120.size x := by
  intro x
  fin_cases x
  exacts [Nat.le_refl _, hb, hs]

theorem inb_scales {r i s : ℕ} (hr : r + 1 ≤ 15) (hi : i + 1 ≤ 8) (hs : s + 1024 ≤ 5120) :
    ∀ x, (![r, i, s] : Fin 3 → ℕ) x + S1x1x1024.size x ≤ S15x8x5120.size x := by
  intro x
  fin_cases x
  exacts [hr, hi, hs]

theorem inb_probs {i s : ℕ} (hi : i + 1 ≤ 8) (hs : s + 1024 ≤ 5120) :
    ∀ x, (![i, 0, s] : Fin 3 → ℕ) x + S1x8x1024.size x ≤ S8x8x5120.size x := by
  intro x
  fin_cases x
  exacts [hi, Nat.le_refl _, hs]

set_option maxHeartbeats 4000000 in
/-- Every access of the body is inside its array. -/
theorem chk (i : grid0.Coords) (v : BitVec 32) (hv : v.toInt ≤ 5120) : k0_chk1 i v := by
  have ok1 : (k0_t1_loop v).OK := Words.ok_blocks v 1024#32 (by decide) (by decide) hv
  have ok2 : (k0_t2_loop v).OK := Scf.rem_ok _ _
  have start (k : Fin (k0_t1_loop v).trips) := block_start k.val (t1_lt v hv k)
  have fit (k : Fin (k0_t1_loop v).trips) : (Scalar.muli (Scf.iv 0#32 1#32 k.val) 1024#32).toNat + 1024 ≤ 5120 := by
    have := start k
    have := t1_lt v hv k
    omega
  have dvd (k : Fin (k0_t1_loop v).trips) : 1024 ∣ (k0_mult1 v k).toNat := by
    show 1024 ∣ (Scalar.muli (Scf.iv 0#32 1#32 k.val) 1024#32).toNat
    rw [start k]
    exact Nat.dvd_mul_right _ _
  have row : (BitVec.ofNat 32 (i 1).val).toNat + 1 ≤ 8 := by
    have : (i 1).val < 8 := (i 1).isLt
    rw [BitVec.toNat_ofNat, Nat.mod_eq_of_lt (by omega)]
    omega
  have none : ∀ {q : Fin (k0_t2_loop v).trips → Prop}, ∀ k, q k := fun k => (no_t2 v k).elim
  refine ⟨⟨ok1, dvd, fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k)⟩,
    ⟨fun k => inb_probs row (fit k), ok2, none, none, none, none, none, none, none, none, none, none, none, none, none, none, none, none, none, none, none, none, none, none, none, none, none, none, none, none, none, none⟩, ⟨none, none⟩⟩

/-- Every cache length is at most 5120: the precondition read at a word. -/
theorem len_le (m : (ℓ : Loc nD τ sig) → Buf (Elt Bits) ℓ) (h : Pre_Values m) (y : S128.Idx) :
    ((tbl m 0 : IVec S128 32) y).toInt ≤ 5120 := by
  have e := congrFun (h 0) (Shape.Idx.first (show 0 < Pre_fits.S_.numel from by decide))
  have e2 := Host.reduce_andi_all _ _ _ _ _ e y
  have e3 := IntOp.cmpi_sle.1 e2
  have e4 : tbl m 0 = m (((0 : Dev nD) : Thread nD τ).loc main_arg6) := V_main_arg6 m 0
  rw [e4]
  exact e3

theorem ok_of_pre (m : (ℓ : Loc nD τ sig) → Buf (Elt Bits) ℓ) (_ : Pre_Values m) : Ok m := trivial

theorem hyps_of_pre (m : (ℓ : Loc nD τ sig) → Buf (Elt Bits) ℓ) (h : Pre_Values m) : Hyps m (ok_of_pre m h) := by
  intro c t
  refine chk _ _ ?_
  exact len_le m h _

end Cert.Values.Own

end
-- ==== Proof.ValuesIdealPre.lean ====
/- The side conditions the ValuesIdeal kernel assumes, from the precondition (hand-written, untrusted): every cache length is
   at most 5120, so the loop over the blocks of 1024 positions makes at most five trips and stays inside the arrays. -/
module

public import proofs.«01_k».proof.Defs
public import proofs.«01_k».proof.Proof.Gen.ValuesIdeal.Frame
public import proofs.«01_k».proof.Proof.Words
public import proofs.«01_k».proof.Proof.Gen.Pre_fits
public import Mathlib.Tactic.IntervalCases
public import Mathlib.Tactic.FinCases
public import Idealize.ShloMosaic.Lib.ReduceAll

@[expose] public section

set_option maxRecDepth 16384

noncomputable section

namespace Cert.ValuesIdeal.Own

open Cert.ValuesIdeal Cert.ValuesIdeal.Gen
open Idealize.ShloMosaic Idealize.ShloMosaic.TcCoe

/-- The loop over the blocks of 1024 positions makes one trip for each block the cache length reaches. -/
theorem t1_trips (v : BitVec 32) (hv : v.toInt ≤ 5120) : (k0_t1_loop v).trips = ((v.toInt + 1023) / 1024).toNat := by
  have := Words.trips_blocks v 1024#32 (by decide) (by decide) hv
  rw [show (1024#32 : BitVec 32).toInt = 1024 from by decide] at this
  refine Eq.trans this ?_
  congr 1
  omega

theorem t1_lt (v : BitVec 32) (hv : v.toInt ≤ 5120) (k : Fin (k0_t1_loop v).trips) : k.val < 5 := by
  have := Nat.lt_of_lt_of_eq k.isLt (t1_trips v hv)
  omega

/-- The start of block `k`. -/
theorem block_start (k : ℕ) (hk : k < 5) : (Scalar.muli (Scf.iv 0#32 1#32 k) 1024#32).toNat = 1024 * k := by
  interval_cases k <;> decide

theorem no_t2 (v : BitVec 32) (k : Fin (k0_t2_loop v).trips) : False :=
  Scf.rem_no_trip _ _ k

theorem t2_trips (v : BitVec 32) : (k0_t2_loop v).trips = 0 := Scf.rem_trips _ _

theorem inb_codes {b s : ℕ} (hb : b + 32 ≤ 480) (hs : s + 1024 ≤ 5120) :
    ∀ x, (![0, b, s] : Fin 3 → ℕ) x + S1x32x1024.size x ≤ S1x480x5120.size x := by
  intro x
  fin_cases x
  exacts [Nat.le_refl _, hb, hs]

theorem inb_scales {r i s : ℕ} (hr : r + 1 ≤ 15) (hi : i + 1 ≤ 8) (hs : s + 1024 ≤ 5120) :
    ∀ x, (![r, i, 0, s] : Fin 4 → ℕ) x + S1x1x2x1024.size x ≤ S15x8x2x5120.size x := by
  intro x
  fin_cases x
  exacts [hr, hi, Nat.le_refl _, hs]

theorem inb_probs {i s : ℕ} (hi : i + 1 ≤ 8) (hs : s + 1024 ≤ 5120) :
    ∀ x, (![i, 0, 0, s] : Fin 4 → ℕ) x + S1x8x2x1024.size x ≤ S8x8x2x5120.size x := by
  intro x
  fin_cases x
  exacts [hi, Nat.le_refl _, Nat.le_refl _, hs]

set_option maxHeartbeats 4000000 in
/-- Every access of the body is inside its array. -/
theorem chk (i : grid0.Coords) (v : BitVec 32) (hv : v.toInt ≤ 5120) : k0_chk1 i v := by
  have ok1 : (k0_t1_loop v).OK := Words.ok_blocks v 1024#32 (by decide) (by decide) hv
  have ok2 : (k0_t2_loop v).OK := Scf.rem_ok _ _
  have start (k : Fin (k0_t1_loop v).trips) := block_start k.val (t1_lt v hv k)
  have fit (k : Fin (k0_t1_loop v).trips) : (Scalar.muli (Scf.iv 0#32 1#32 k.val) 1024#32).toNat + 1024 ≤ 5120 := by
    have := start k
    have := t1_lt v hv k
    omega
  have dvd (k : Fin (k0_t1_loop v).trips) : 1024 ∣ (k0_mult1 v k).toNat := by
    show 1024 ∣ (Scalar.muli (Scf.iv 0#32 1#32 k.val) 1024#32).toNat
    rw [start k]
    exact Nat.dvd_mul_right _ _
  have row : (BitVec.ofNat 32 (i 1).val).toNat + 1 ≤ 8 := by
    have : (i 1).val < 8 := (i 1).isLt
    rw [BitVec.toNat_ofNat, Nat.mod_eq_of_lt (by omega)]
    omega
  have none : ∀ {q : Fin (k0_t2_loop v).trips → Prop}, ∀ k, q k := fun k => (no_t2 v k).elim
  refine ⟨⟨ok1, dvd, fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k), fun k => inb_codes (by decide) (fit k), fun k => inb_scales (by decide) row (fit k)⟩,
    ⟨fun k => inb_probs row (fit k), ok2, none, none, none, none, none, none, none, none, none, none, none, none, none, none, none, none, none, none, none, none, none, none, none, none, none, none, none, none, none, none⟩, ⟨none, none⟩⟩

/-- Every cache length is at most 5120: the precondition read at a word. -/
theorem len_le (m : (ℓ : Loc nD τ sig) → Buf (Elt Ideal) ℓ) (h : Pre_ValuesIdeal m) (y : S128.Idx) :
    ((tbl m 0 : IVec S128 32) y).toInt ≤ 5120 := by
  have e := congrFun (h 0) (Shape.Idx.first (show 0 < Pre_fits.S_.numel from by decide))
  have e2 := Host.reduce_andi_all _ _ _ _ _ e y
  have e3 := IntOp.cmpi_sle.1 e2
  have e4 : tbl m 0 = m (((0 : Dev nD) : Thread nD τ).loc main_arg6) := V_main_arg6 m 0
  rw [e4]
  exact e3

theorem ok_of_pre (m : (ℓ : Loc nD τ sig) → Buf (Elt Ideal) ℓ) (_ : Pre_ValuesIdeal m) : Ok m := trivial

theorem hyps_of_pre (m : (ℓ : Loc nD τ sig) → Buf (Elt Ideal) ℓ) (h : Pre_ValuesIdeal m) : Hyps m (ok_of_pre m h) := by
  intro c t
  refine chk _ _ ?_
  exact len_le m h _

end Cert.ValuesIdeal.Own

end
-- ==== Proof.Claims.lean ====
/- The frames of the values kernel, of its idealization and of its reference, and the statements the idealization
   rests on (hand-written, untrusted). -/
module

public import proofs.«01_k».proof.Defs
public import proofs.«01_k».proof.Proof.ValuesPre
public import proofs.«01_k».proof.Proof.ValuesIdealPre
public import proofs.«01_k».proof.Proof.Gen.ValuesRefIdeal
public import proofs.«01_k».proof.Proof.Gen.On_kept
public import Idealize.ShloMosaic.Lib.Bf16PairInverse
public import Idealize.ShloMosaic.Lib.Quiescent
public import Idealize.ShloMosaic.Lib.Claim

@[expose] public section

set_option maxRecDepth 16384

noncomputable section

open Idealize.ShloMosaic Idealize.SL.Sem

namespace Cert.Proof.ValuesClaims

theorem frame_p : Cert.quiescent_Values := fun m ρ h =>
  Cert.Values.Gen.frame m ρ (Cert.Values.Own.ok_of_pre m h) (Cert.Values.Own.hyps_of_pre m h)

theorem frame_pi : Cert.quiescent_ValuesIdeal := fun m ρ h =>
  Cert.ValuesIdeal.Gen.frame m ρ (Cert.ValuesIdeal.Own.ok_of_pre m h) (Cert.ValuesIdeal.Own.hyps_of_pre m h)

set_option maxHeartbeats 4000000 in
theorem frame_ri : Cert.quiescent_ValuesRefIdeal := by
  intro m g _
  hlo_run
  all_goals first
    | exact Idealize.ShloMosaic.sem_eq_zero_of_no_sems (sig := Cert.ValuesRefIdeal.sig) (by decide) _
    | exact fun _ => ⟨trivial, trivial, trivial, trivial, trivial, trivial, trivial⟩

/-- The probabilities' and the scales' scratch buffers re-typed; the row selections of the loads and stores; the masking
    select; the packing of two rows into a word; and the words read back as rows. -/
theorem preserves : Cert.preserves_Values_ValuesIdeal :=
  open Cert.ValuesIdeal IdealRules.bf16_pair in
  ⟨bufferStatement S8x8x2x5120 S8x8x1x5120, bufferStatement S15x8x2x5120 S15x8x1x5120,
    statement S8x8x2x5120 S8x8x1x5120, selectZeroStatement S8x8x5120, packStatement S8x5120,
    statement S8x1x2x5120 S8x1x1x5120, statement S1x8x2x5120 S1x8x1x5120, statement S1x1x2x1024 S1x1x1x1024,
    statement S32x1024 S16x1024, statement S1x8x2x1024 S1x8x1x1024, statement S16x1024 S8x1024⟩

end Cert.Proof.ValuesClaims

end
-- ==== Proof.ValuesTrip.lean ====
module
public import proofs.«01_k».proof.Proof.ValuesIdealPre
public import Idealize.ShloMosaic.Lib.Pipeline.ValueKit
public import Idealize.ShloMosaic.Lib.Pointwise
public import Idealize.ShloMosaic.Lib.Claim
public import Idealize.ShloMosaic.Lib.WritesUnit
@[expose] public section
set_option maxRecDepth 16384
noncomputable section
namespace Cert.ValuesIdeal.Own
open Cert.ValuesIdeal Cert.ValuesIdeal.Gen
open Idealize.ShloMosaic Idealize.ShloMosaic.TcCoe Idealize.ShloMosaic.Pipeline

/-- One block of 32 rows of one trip: the codes times their scale. -/
theorem row_at (C : Vec Ideal S1x480x5120 .i8) (S : Vec Ideal S15x8x2x5120 .bf16) (r b n : ℕ) (hr : r < 15) (hb : b < 8) (hn : n < 5)
    {off : Fin 3 → ℕ} {off' : Fin 4 → ℕ} (inb : ∀ x, off x + S1x32x1024.size x ≤ S1x480x5120.size x)
    (inb' : ∀ x, off' x + S1x1x2x1024.size x ≤ S15x8x2x5120.size x) (hoff : off = ![0, 32 * r, 1024 * n])
    (hoff' : off' = ![r, b, 0, 1024 * n]) (a : Fin 32) (l : Fin 1024) :
    k0_pay120 (F := Ideal) (View.ld C (Rect.unit off ![1, 32, 1024] inb)) (View.ld S (Rect.unit off' ![1, 1, 2, 1024] inb')) (ix2 a l)
      = FloatOps.sitofp (F := Ideal) .bf16 (C (ix3 (0 : Fin 1) ⟨32 * r + a, by omega⟩ ⟨1024 * n + l, by omega⟩))
        * S (ix4 (⟨r, hr⟩ : Fin 15) (⟨b, hb⟩ : Fin 8) ⟨a % 2, by omega⟩ ⟨1024 * n + l, by omega⟩) := by
  subst hoff hoff'
  pointwise [k0_pay120]
  refine congrArg _ ?_
  simp only [dite_eq_ite, ite_self]
  rcases Nat.mod_two_eq_zero_or_one a with e | e
  · rw [if_pos e]
    congr 2
    exact Fin.ext e.symm
  · rw [if_neg (by omega)]
    congr 2
    exact Fin.ext e.symm

/-- The same at the row `a` of the whole stack. -/
theorem row_at' (C : Vec Ideal S1x480x5120 .i8) (S : Vec Ideal S15x8x2x5120 .bf16) (r b n : ℕ) (hr : r < 15) (hb : b < 8) (hn : n < 5)
    {off : Fin 3 → ℕ} {off' : Fin 4 → ℕ} (inb : ∀ x, off x + S1x32x1024.size x ≤ S1x480x5120.size x)
    (inb' : ∀ x, off' x + S1x1x2x1024.size x ≤ S15x8x2x5120.size x) (hoff : off = ![0, 32 * r, 1024 * n])
    (hoff' : off' = ![r, b, 0, 1024 * n]) (a : Fin 480) (l : Fin 1024) (a' : Fin 32) (ha : a.val = 32 * r + a') :
    k0_pay120 (F := Ideal) (View.ld C (Rect.unit off ![1, 32, 1024] inb)) (View.ld S (Rect.unit off' ![1, 1, 2, 1024] inb')) (ix2 a' l)
      = FloatOps.sitofp (F := Ideal) .bf16 (C (ix3 (0 : Fin 1) a ⟨1024 * n + l, by omega⟩))
        * S (ix4 (⟨a / 32, by omega⟩ : Fin 15) (⟨b, hb⟩ : Fin 8) ⟨a % 2, by omega⟩ ⟨1024 * n + l, by omega⟩) := by
  rw [row_at C S r b n hr hb hn inb inb' hoff hoff' a' l]
  have e1 : (⟨32 * r + a', by omega⟩ : Fin 480) = a := Fin.ext ha.symm
  have e2 : (⟨r, hr⟩ : Fin 15) = ⟨a / 32, by omega⟩ := Fin.ext (by show r = a.val / 32; omega)
  have e3 : (⟨a' % 2, by omega⟩ : Fin 2) = ⟨a % 2, by omega⟩ := Fin.ext (by show a'.val % 2 = a.val % 2; omega)
  rw [e1, e2, e3]

theorem row_word (i : grid0.Coords) : (BitVec.ofNat 32 (i 1).val).toNat = (i 1).val := by
  have : (i 1).val < 8 := (i 1).isLt
  rw [BitVec.toNat_ofNat, Nat.mod_eq_of_lt (by omega)]

theorem code_off (r n : ℕ) (hn : n < 5) :
    (![0, 32 * r, (Scalar.muli (Scf.iv 0#32 1#32 n) 1024#32).toNat] : Fin 3 → ℕ) = ![0, 32 * r, 1024 * n] := by
  rw [block_start n hn]

theorem scale_off (i : grid0.Coords) (r n : ℕ) (hn : n < 5) :
    (![r, (BitVec.ofNat 32 (i 1).val).toNat, 0, (Scalar.muli (Scf.iv 0#32 1#32 n) 1024#32).toNat] : Fin 4 → ℕ)
      = ![r, (i 1).val, 0, 1024 * n] := by
  rw [block_start n hn, row_word]

theorem prob_off (i : grid0.Coords) (n : ℕ) (hn : n < 5) :
    (![(BitVec.ofNat 32 (i 1).val).toNat, 0, 0, (Scalar.muli (Scf.iv 0#32 1#32 n) 1024#32).toNat] : Fin 4 → ℕ)
      = ![(i 1).val, 0, 0, 1024 * n] := by
  rw [block_start n hn, row_word]

/-- The term of one position in the sum over the cache. -/
def term (C : Vec Ideal S1x480x5120 .i8) (S : Vec Ideal S15x8x2x5120 .bf16) (P : Vec Ideal S8x8x2x5120 .bf16) (b : Fin 8)
    (a : Fin 480) (h : Fin 16) (q : Fin 5120) : EReal :=
  FloatOps.sitofp (F := Ideal) .bf16 (C (ix3 (0 : Fin 1) a q)) * S (ix4 (⟨a / 32, by omega⟩ : Fin 15) b ⟨a % 2, by omega⟩ q)
    * P (ix4 b ⟨h / 2, by omega⟩ ⟨h % 2, by omega⟩ q)

set_option maxHeartbeats 2000000 in
/-- A stack of fifteen blocks of 32 rows, each block known where its rows lie. -/
theorem stack_at (p0 p1 p2 p3 p4 p5 p6 p7 p8 p9 p10 p11 p12 p13 p14 : FVec Ideal S32x1024 .bf16) (W : EReal) (a : Fin 480) (l : Fin 1024)
    (h0 : ∀ a' : Fin 32, a.val = 32 * 0 + a' → p0 (ix2 a' l) = W)
    (h1 : ∀ a' : Fin 32, a.val = 32 * 1 + a' → p1 (ix2 a' l) = W)
    (h2 : ∀ a' : Fin 32, a.val = 32 * 2 + a' → p2 (ix2 a' l) = W)
    (h3 : ∀ a' : Fin 32, a.val = 32 * 3 + a' → p3 (ix2 a' l) = W)
    (h4 : ∀ a' : Fin 32, a.val = 32 * 4 + a' → p4 (ix2 a' l) = W)
    (h5 : ∀ a' : Fin 32, a.val = 32 * 5 + a' → p5 (ix2 a' l) = W)
    (h6 : ∀ a' : Fin 32, a.val = 32 * 6 + a' → p6 (ix2 a' l) = W)
    (h7 : ∀ a' : Fin 32, a.val = 32 * 7 + a' → p7 (ix2 a' l) = W)
    (h8 : ∀ a' : Fin 32, a.val = 32 * 8 + a' → p8 (ix2 a' l) = W)
    (h9 : ∀ a' : Fin 32, a.val = 32 * 9 + a' → p9 (ix2 a' l) = W)
    (h10 : ∀ a' : Fin 32, a.val = 32 * 10 + a' → p10 (ix2 a' l) = W)
    (h11 : ∀ a' : Fin 32, a.val = 32 * 11 + a' → p11 (ix2 a' l) = W)
    (h12 : ∀ a' : Fin 32, a.val = 32 * 12 + a' → p12 (ix2 a' l) = W)
    (h13 : ∀ a' : Fin 32, a.val = 32 * 13 + a' → p13 (ix2 a' l) = W)
    (h14 : ∀ a' : Fin 32, a.val = 32 * 14 + a' → p14 (ix2 a' l) = W) :
    concatenate S480x1024 0 [⟨S32x1024, p0⟩, ⟨S32x1024, p1⟩, ⟨S32x1024, p2⟩, ⟨S32x1024, p3⟩, ⟨S32x1024, p4⟩, ⟨S32x1024, p5⟩, ⟨S32x1024, p6⟩, ⟨S32x1024, p7⟩, ⟨S32x1024, p8⟩, ⟨S32x1024, p9⟩, ⟨S32x1024, p10⟩, ⟨S32x1024, p11⟩, ⟨S32x1024, p12⟩, ⟨S32x1024, p13⟩, ⟨S32x1024, p14⟩]
      concatenates_S32x1024_S32x1024_S32x1024_S32x1024_S32x1024_S32x1024_S32x1024_S32x1024_S32x1024_S32x1024_S32x1024_S32x1024_S32x1024_S32x1024_S32x1024_S480x1024_d0 (ix2 a l) = W := by
  have ha := a.isLt
  refine (concatenate_ofFn_apply (s₁ := S32x1024) (t := S480x1024) (0 : Fin 2) (N := 15) ![p0, p1, p2, p3, p4, p5, p6, p7, p8, p9, p10, p11, p12, p13, p14]
    concatenates_S32x1024_S32x1024_S32x1024_S32x1024_S32x1024_S32x1024_S32x1024_S32x1024_S32x1024_S32x1024_S32x1024_S32x1024_S32x1024_S32x1024_S32x1024_S480x1024_d0 rfl 32 rfl (ix2 a l) ⟨a.val / 32, by omega⟩ rfl
    (ix2 (⟨a.val % 32, by omega⟩ : Fin 32) l) rfl (by intro b hb; fin_cases b; exacts [(hb rfl).elim, rfl])).trans ?_
  have key : ∀ n : Fin 15, a.val = 32 * n.val + a.val % 32 →
      (![p0, p1, p2, p3, p4, p5, p6, p7, p8, p9, p10, p11, p12, p13, p14] : Fin 15 → FVec Ideal S32x1024 .bf16) n (ix2 (⟨a.val % 32, by omega⟩ : Fin 32) l) = W := by
    intro n hn
    fin_cases n
    exacts [h0 _ hn, h1 _ hn, h2 _ hn, h3 _ hn, h4 _ hn, h5 _ hn, h6 _ hn, h7 _ hn, h8 _ hn, h9 _ hn, h10 _ hn, h11 _ hn, h12 _ hn, h13 _ hn, h14 _ hn]
  exact key _ (Nat.div_add_mod a.val 32).symm

/-- The accumulator after one product. -/
theorem pay_at (X : FVec Ideal S480x1024 .bf16) (Q : Vec Ideal S8x8x2x5120 .bf16) (b n : ℕ) (hb : b < 8) (hn : n < 5)
    {off : Fin 4 → ℕ} (inb : ∀ x, off x + S1x8x2x1024.size x ≤ S8x8x2x5120.size x) (hoff : off = ![b, 0, 0, 1024 * n])
    (A : Vec Ideal S480x16 .f32) (a : Fin 480) (h : Fin 16) :
    k0_pay138 (F := Ideal) X (View.ld Q (Rect.unit off ![1, 8, 2, 1024] inb)) A (ix2 a h)
      = A (ix2 a h) + ∑ l : Fin 1024, X (ix2 a l) * Q (ix4 (⟨b, hb⟩ : Fin 8) ⟨h / 2, by omega⟩ ⟨h % 2, by omega⟩ ⟨1024 * n + l, by omega⟩) := by
  subst hoff
  pointwise [k0_pay138]
  refine congrArg (A (ix2 a h) + ·) (Finset.sum_congr rfl fun l _ => congrArg (X (ix2 a l) * ·) ?_)
  rcases Nat.mod_two_eq_zero_or_one h with e | e
  · rw [if_pos e]
    congr 2
    exact Fin.ext e.symm
  · rw [if_neg (by omega)]
    congr 2
    exact Fin.ext e.symm

set_option maxHeartbeats 2000000 in
/-- One trip adds its 1024 positions to the accumulator. -/
theorem trip_read (𝒱 : Variants) (c : Dev nD) (bd : Option 𝒱.V) (i : grid0.Coords) (arg2 : Memref sig .tc .smem S128 .i32) (harg2 : arg2.IsWhole) (arg3 : Memref sig .tc .vmem S10x8x5120 .f32) (harg3 : arg3.IsWhole) (arg4 : Memref sig .tc .vmem S15x8x5120 .f32) (harg4 : arg4.IsWhole) (arg5 : Memref sig .tc .vmem S1x480x5120 .i8) (harg5 : arg5.IsWhole) (arg6 : Memref sig .tc .vmem S8x960 .bf16) (harg6 : arg6.IsWhole) (arg7 : Memref sig .tc .vmem S8x480 .bf16) (harg7 : arg7.IsWhole) (arg8 : Memref sig .tc .vmem S8x480 .f32) (harg8 : arg8.IsWhole) (arg9 : Memref sig .tc .vmem S8x128 .i32) (harg9 : arg9.IsWhole) (arg10 : Memref sig .tc .vmem S1x16x480 .f32) (harg10 : arg10.IsWhole) (arg11 : Memref sig .tc .vmem S8x8x2x5120 .bf16) (harg11 : arg11.IsWhole) (arg12 : Memref sig .tc .vmem S15x8x2x5120 .bf16) (harg12 : arg12.IsWhole) (arg13 : Memref sig .tc .vmem S8x16x128 .f32) (harg13 : arg13.IsWhole) (arg14 : Memref sig .tc .vmem S480x16 .f32) (harg14 : arg14.IsWhole) (arg1 : BitVec 32) (v15 : Elt Ideal .i32) (k0_hw1 : k0_chk1 i v15) (X_arg5 : BufTy.Contents (Elt Ideal) arg5.view.ty) (X_arg11 : BufTy.Contents (Elt Ideal) arg11.view.ty) (X_arg12 : BufTy.Contents (Elt Ideal) arg12.view.ty) (k : Fin (k0_t1_loop v15).trips) (f_arg14 : BufTy.Contents (Elt Ideal) arg14.view.ty)  (hv : v15.toInt ≤ 5120) (a : Fin 480) (h : Fin 16) :
   View.read (Elt Ideal) arg14.view (arg14.view.writes (Elt Ideal) f_arg14 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v15 k0_hw1 X_arg5 X_arg11 X_arg12 k f_arg14)) (ix2 a h)
     = View.read (Elt Ideal) arg14.view f_arg14 (ix2 a h)
       + ∑ l : Fin 1024, term (View.read (Elt Ideal) arg5.view X_arg5) (View.read (Elt Ideal) arg12.view X_arg12)
           (View.read (Elt Ideal) arg11.view X_arg11) ⟨(i 1).val, (i 1).isLt⟩ a h ⟨1024 * k.val + l, by have := t1_lt v15 hv k; omega⟩ := by
  have hk := t1_lt v15 hv k
  have hi : (i 1).val < 8 := (i 1).isLt
  unfold tripL_k0_t1 trip_k0_t1
  frame_out
  refine (View.read_writes_cons_unit_of_mem arg14.view _ _ _ _ _ (ix2 a h) rfl (by intro x; fin_cases x <;> exact (Nat.zero_add _).symm)).trans ?_
  generalize View.read (Elt Ideal) arg5.view X_arg5 = C
  generalize View.read (Elt Ideal) arg12.view X_arg12 = S
  generalize View.read (Elt Ideal) arg11.view X_arg11 = P
  generalize View.read (Elt Ideal) arg14.view f_arg14 = A
  refine (pay_at _ P (i 1).val k.val hi hk _ (prob_off i k.val hk) A a h).trans ?_
  refine congrArg (A (ix2 a h) + ·) (Finset.sum_congr rfl fun l _ => Ideal.mul_congr ?_ rfl)
  have row (r : ℕ) (hr : r < 15) {off : Fin 3 → ℕ} {off' : Fin 4 → ℕ} (inb : ∀ x, off x + S1x32x1024.size x ≤ S1x480x5120.size x)
      (inb' : ∀ x, off' x + S1x1x2x1024.size x ≤ S15x8x2x5120.size x) (hoff : off = ![0, 32 * r, (Scalar.muli (Scf.iv 0#32 1#32 k.val) 1024#32).toNat])
      (hoff' : off' = ![r, (BitVec.ofNat 32 (i 1).val).toNat, 0, (Scalar.muli (Scf.iv 0#32 1#32 k.val) 1024#32).toNat]) (a' : Fin 32) (ha : a.val = 32 * r + a') :=
    row_at' C S r (i 1).val k.val hr hi hk inb inb' (hoff.trans (code_off r k.val hk)) (hoff'.trans (scale_off i r k.val hk)) a l a' ha
  refine stack_at _ _ _ _ _ _ _ _ _ _ _ _ _ _ _ _ a l (row 0 (by decide) _ _ rfl rfl) (row 1 (by decide) _ _ rfl rfl) (row 2 (by decide) _ _ rfl rfl) (row 3 (by decide) _ _ rfl rfl) (row 4 (by decide) _ _ rfl rfl) (row 5 (by decide) _ _ rfl rfl) (row 6 (by decide) _ _ rfl rfl) (row 7 (by decide) _ _ rfl rfl) (row 8 (by decide) _ _ rfl rfl) (row 9 (by decide) _ _ rfl rfl) (row 10 (by decide) _ _ rfl rfl) (row 11 (by decide) _ _ rfl rfl) (row 12 (by decide) _ _ rfl rfl) (row 13 (by decide) _ _ rfl rfl) (row 14 (by decide) _ _ rfl rfl)

/-- The accumulator after `n` trips: the positions of the first `n` blocks. -/
theorem loop_read (𝒱 : Variants) (c : Dev nD) (bd : Option 𝒱.V) (i : grid0.Coords) (arg2 : Memref sig .tc .smem S128 .i32) (harg2 : arg2.IsWhole) (arg3 : Memref sig .tc .vmem S10x8x5120 .f32) (harg3 : arg3.IsWhole) (arg4 : Memref sig .tc .vmem S15x8x5120 .f32) (harg4 : arg4.IsWhole) (arg5 : Memref sig .tc .vmem S1x480x5120 .i8) (harg5 : arg5.IsWhole) (arg6 : Memref sig .tc .vmem S8x960 .bf16) (harg6 : arg6.IsWhole) (arg7 : Memref sig .tc .vmem S8x480 .bf16) (harg7 : arg7.IsWhole) (arg8 : Memref sig .tc .vmem S8x480 .f32) (harg8 : arg8.IsWhole) (arg9 : Memref sig .tc .vmem S8x128 .i32) (harg9 : arg9.IsWhole) (arg10 : Memref sig .tc .vmem S1x16x480 .f32) (harg10 : arg10.IsWhole) (arg11 : Memref sig .tc .vmem S8x8x2x5120 .bf16) (harg11 : arg11.IsWhole) (arg12 : Memref sig .tc .vmem S15x8x2x5120 .bf16) (harg12 : arg12.IsWhole) (arg13 : Memref sig .tc .vmem S8x16x128 .f32) (harg13 : arg13.IsWhole) (arg14 : Memref sig .tc .vmem S480x16 .f32) (harg14 : arg14.IsWhole) (arg1 : BitVec 32) (v15 : Elt Ideal .i32) (k0_hw1 : k0_chk1 i v15) (X_arg5 : BufTy.Contents (Elt Ideal) arg5.view.ty) (X_arg11 : BufTy.Contents (Elt Ideal) arg11.view.ty) (X_arg12 : BufTy.Contents (Elt Ideal) arg12.view.ty)  (G_arg14 : BufTy.Contents (Elt Ideal) arg14.view.ty) (hv : v15.toInt ≤ 5120) (a : Fin 480) (h : Fin 16) (n : ℕ) (hn : n ≤ (k0_t1_loop v15).trips) :
   View.read (Elt Ideal) arg14.view (arg14.view.writes (Elt Ideal) G_arg14 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v15 k0_hw1 X_arg5 X_arg11 X_arg12 G_arg14 n)) (ix2 a h)
     = View.read (Elt Ideal) arg14.view G_arg14 (ix2 a h)
       + ∑ k : Fin 5, if k.val < n then ∑ l : Fin 1024, term (View.read (Elt Ideal) arg5.view X_arg5) (View.read (Elt Ideal) arg12.view X_arg12)
           (View.read (Elt Ideal) arg11.view X_arg11) ⟨(i 1).val, (i 1).isLt⟩ a h ⟨1024 * k.val + l, by omega⟩ else 0 := by
  induction n with
  | zero =>
    simp only [Nat.not_lt_zero, if_false, Finset.sum_const_zero, add_zero]
    rfl
  | succ n ih =>
    have hlt : n < (k0_t1_loop v15).trips := hn
    have h5 := t1_lt v15 hv ⟨n, hlt⟩
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v15 k0_hw1 X_arg5 X_arg11 X_arg12 G_arg14 ⟨n, hlt⟩, View.writes_append, trip_read (hv := hv), ih (by omega)]
    rw [add_assoc]
    refine congrArg (View.read (Elt Ideal) arg14.view G_arg14 (ix2 a h) + ·) ?_
    simp only [Fin.sum_univ_five]
    have h5' : n < 5 := h5
    interval_cases n <;> simp [add_assoc]

end Cert.ValuesIdeal.Own
end
-- ==== Proof.ValuesStep.lean ====
module
public import proofs.«01_k».proof.Proof.ValuesIdealPre
public import Idealize.ShloMosaic.Lib.Pipeline.ValueKit
public import Idealize.ShloMosaic.Lib.Pointwise
public import Idealize.ShloMosaic.Lib.Claim
public import Idealize.ShloMosaic.Lib.WritesUnit
public import Idealize.ShloMosaic.Lib.Pipeline.ReadBack
public import proofs.«01_k».proof.Proof.ValuesTrip
@[expose] public section
set_option maxRecDepth 16384
noncomputable section
namespace Cert.ValuesIdeal.Own
open Cert.ValuesIdeal Cert.ValuesIdeal.Gen
open Idealize.ShloMosaic Idealize.ShloMosaic.TcCoe Idealize.ShloMosaic.Pipeline

/-- The zeros the accumulator starts from, as one stored piece. -/
abbrev zeroPiece : View.Piece (Elt Ideal) S480x16 .f32 := ⟨Rect.unit ![0, 0] ![480, 16] inb_S480x16_S480x16_0_0, k0_pay161 (F := Ideal)⟩

/-- The sum over the cache positions of the first `n` blocks. -/
def cacheSum (n : ℕ) (C : Vec Ideal S1x480x5120 .i8) (S : Vec Ideal S15x8x2x5120 .bf16) (P : Vec Ideal S8x8x2x5120 .bf16) (b : Fin 8)
    (a : Fin 480) (h : Fin 16) : EReal :=
  ∑ k : Fin 5, if k.val < n then ∑ l : Fin 1024, term C S P b a h ⟨1024 * k.val + l, by omega⟩ else 0

/-- Stores that cover a buffer determine what it holds. -/
theorem read_canon {sig : RefSig} {κ : Kind} {sp : Space} {s : Shape} {e : EltTy} (v : View sig κ sp s e) (f : v.ty.Contents (Elt Ideal))
    (L : List (View.Piece (Elt Ideal) s e)) (h : ∀ y, ∃ p ∈ L, y ∈ p.1.set) : v.read (Elt Ideal) (v.writes (Elt Ideal) f L) = View.canon L :=
  funext fun y => View.read_writes_apply_eq_canon _ _ _ _ (h y)

theorem cacheSum_congr {n n' : ℕ} {C C' : Vec Ideal S1x480x5120 .i8} {S S' : Vec Ideal S15x8x2x5120 .bf16} {P P' : Vec Ideal S8x8x2x5120 .bf16} {b : Fin 8}
    {a : Fin 480} {h : Fin 16} (hn : n = n') (hC : C = C') (hS : S = S') (hP : P = P') : cacheSum n C S P b a h = cacheSum n' C' S' P' b a h := by
  subst hn hC hS hP
  rfl

/-- What the accumulator holds when both loops are done. -/
theorem acc_at (𝒱 : Variants) (c : Dev nD) (bd : Option 𝒱.V) (i : grid0.Coords) (arg2 : Memref sig .tc .smem S128 .i32) (harg2 : arg2.IsWhole) (arg3 : Memref sig .tc .vmem S10x8x5120 .f32) (harg3 : arg3.IsWhole) (arg4 : Memref sig .tc .vmem S15x8x5120 .f32) (harg4 : arg4.IsWhole) (arg5 : Memref sig .tc .vmem S1x480x5120 .i8) (harg5 : arg5.IsWhole) (arg6 : Memref sig .tc .vmem S8x960 .bf16) (harg6 : arg6.IsWhole) (arg7 : Memref sig .tc .vmem S8x480 .bf16) (harg7 : arg7.IsWhole) (arg8 : Memref sig .tc .vmem S8x480 .f32) (harg8 : arg8.IsWhole) (arg9 : Memref sig .tc .vmem S8x128 .i32) (harg9 : arg9.IsWhole) (arg10 : Memref sig .tc .vmem S1x16x480 .f32) (harg10 : arg10.IsWhole) (arg11 : Memref sig .tc .vmem S8x8x2x5120 .bf16) (harg11 : arg11.IsWhole) (arg12 : Memref sig .tc .vmem S15x8x2x5120 .bf16) (harg12 : arg12.IsWhole) (arg13 : Memref sig .tc .vmem S8x16x128 .f32) (harg13 : arg13.IsWhole) (arg14 : Memref sig .tc .vmem S480x16 .f32) (harg14 : arg14.IsWhole) (arg1 : BitVec 32) (v15 : Elt Ideal .i32) (k0_hw1 : k0_chk1 i v15) (X_arg5 : BufTy.Contents (Elt Ideal) arg5.view.ty) (X_arg11 : BufTy.Contents (Elt Ideal) arg11.view.ty) (X_arg12 : BufTy.Contents (Elt Ideal) arg12.view.ty)  (hv : v15.toInt ≤ 5120) (L : List (View.Piece (Elt Ideal) S480x16 .f32)) (hL : L = []) (n : ℕ) (hn : n = (k0_t1_loop v15).trips) (a : Fin 480) (h : Fin 16) :
    View.readCov (Val := Elt Ideal) arg14.view (L ++ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg1 v15 k0_hw1 X_arg5 X_arg11 X_arg12 (arg14.view.writes (Elt Ideal) arg14.view.junk [zeroPiece]) n ++ [zeroPiece]))
      (Rect.unit (s := S480x16) ![0, 0] ![480, 16] inb_S480x16_S480x16_0_0).toLoadRect (ix2 a h)
     = cacheSum n (View.read (Elt Ideal) arg5.view X_arg5) (View.read (Elt Ideal) arg12.view X_arg12)
           (View.read (Elt Ideal) arg11.view X_arg11) ⟨(i 1).val, (i 1).isLt⟩ a h := by
  rw [hL, List.nil_append]
  unfold View.readCov
  rw [View.writes_append]
  have e : (Rect.unit (s := S480x16) ![0, 0] ![480, 16] inb_S480x16_S480x16_0_0).toLoadRect.idx (ix2 a h) = (ix2 a h : S480x16.Idx) :=
    funext fun x => Fin.ext (by fin_cases x <;> (show 0 + 1 * _ = _; omega))
  refine (congrArg (View.read (Elt Ideal) arg14.view _) e).trans ?_
  refine (loop_read (hv := hv) (a := a) (h := h) (n := n) (hn := hn.le) ..).trans ?_
  refine (congrArg (· + _) ?_).trans (zero_add _)
  refine (View.read_writes_cons_unit_of_mem arg14.view _ _ _ _ _ (ix2 a h) rfl (by intro x; fin_cases x <;> exact (Nat.zero_add _).symm)).trans ?_
  pointwise [k0_pay161]

theorem pay1_at (A : Vec Ideal S480x16 .f32) (V : Vec Ideal S8x480 .f32) (N : Vec Ideal S8x16x128 .f32) (i : grid0.Coords) {off : Fin 2 → ℕ} {off' : Fin 3 → ℕ}
    (inb : ∀ x, off x + S1x480.size x ≤ S8x480.size x) (inb' : ∀ x, off' x + S1x16x128.size x ≤ S8x16x128.size x)
    (hoff : off = ![(i 1).val, 0]) (hoff' : off' = ![(i 1).val, 0, 0]) (h : Fin 16) (a : Fin 480) :
    k0_pay1 (F := Ideal) A (View.ld V (Rect.unit off ![1, 480] inb)) (View.ld N (Rect.unit off' ![1, 16, 128] inb')) (ix3 (0 : Fin 1) h a)
      = A (ix2 a h) + N (ix3 (⟨(i 1).val, (i 1).isLt⟩ : Fin 8) h (0 : Fin 128)) * V (ix2 (⟨(i 1).val, (i 1).isLt⟩ : Fin 8) a) := by
  subst hoff hoff'
  have hi : (i 1).val < 8 := (i 1).isLt
  pointwise [k0_pay1]
  trace_state

variable (m : (ℓ : Loc nD τ sig) → Buf (Elt Ideal) ℓ)

/-- The cache part and the new position's part together. -/
def tail (x n v : EReal) : EReal := x + n * v

/-- The cache length the point reads. -/
abbrev lenAt (t : Fin grid0.N) : BitVec 32 :=
  View.readAt (Elt Ideal) (View.whole main_arg6) (Rect.unit (s := S128) (k0_off1 (grid0.coords t)) ![1] (k0_off1_inb (grid0.coords t))).toLoadRect (tbl m 0) (Shape.Idx.first (show 0 < S1.numel from by decide))

set_option maxHeartbeats 400000 in
theorem out_B (hO : Ok m) (hH : Hyps m hO) (c : Dev nD) (t : Fin (cfgM m hO).N) (hv : (lenAt m t).toInt ≤ 5120) (h0 : ¬t.val % 128 = 0) (h1 : ¬t.val % 8 = 0) (h : Fin 16) (a : Fin 480) :
    (outsAt0 m hO hH c t.val t.isLt).1 (ix3 (0 : Fin 1) h a)
      = tail (cacheSum (k0_t1_loop (lenAt m t)).trips (iblk m hO c 2 t) (outsAt0 m hO hH c t.val t.isLt).2.2.1 (outsAt0 m hO hH c t.val t.isLt).2.1
          ⟨(grid0.coords t 1).val, (grid0.coords t 1).isLt⟩ a h)
        ((outsAt0 m hO hH c t.val t.isLt).2.2.2 (ix3 (⟨(grid0.coords t 1).val, (grid0.coords t 1).isLt⟩ : Fin 8) h (0 : Fin 128)))
        (iblk m hO c 5 t (ix2 (⟨(grid0.coords t 1).val, (grid0.coords t 1).isLt⟩ : Fin 8) a)) := by
  rw [outsAt0_B m hO hH c t h0 h1]
  frame_out
  refine (pay1_at _ _ _ (grid0.coords t) _ _ (k0_off64_eq _) (k0_off65_eq _) h a).trans ?_
  refine Ideal.add_congr ?_ ?_
  · refine (acc_at (arg14 := scM0_3) (hv := hv) (hn := ?hn) (hL := ?hL) (h := h) (a := a) ..).trans ?_
    case hn => rfl
    case hL => exact (congrArg (pb_k0_t2 (F := Ideal)  _ _ _ _ _ _ _ _ _ _ _ _ _ _ _ _ _ _ _ _ _ _ _ _ _ _ _ _ _ _ _ _ _ _ _ _ _ _) (t2_trips (lenAt m t))).trans rfl
    exact cacheSum_congr rfl ((hs0_2 m hO t).read_unread _) (read_unread_whole _ _ _) (read_unread_whole _ _ _)
  · exact Ideal.mul_congr (congrFun (read_unread_whole _ _ _) _) (congrFun ((hs0_5 m hO t).read_unread _) _)

set_option maxHeartbeats 400000 in
theorem out_C (hO : Ok m) (hH : Hyps m hO) (c : Dev nD) (t : Fin (cfgM m hO).N) (hv : (lenAt m t).toInt ≤ 5120) (h0 : ¬t.val % 128 = 0) (h1 : t.val % 8 = 0) (h : Fin 16) (a : Fin 480) :
    (outsAt0 m hO hH c t.val t.isLt).1 (ix3 (0 : Fin 1) h a)
      = tail (cacheSum (k0_t1_loop (lenAt m t)).trips (iblk m hO c 2 t) (outsAt0 m hO hH c t.val t.isLt).2.2.1 (outsAt0 m hO hH c t.val t.isLt).2.1
          ⟨(grid0.coords t 1).val, (grid0.coords t 1).isLt⟩ a h)
        ((outsAt0 m hO hH c t.val t.isLt).2.2.2 (ix3 (⟨(grid0.coords t 1).val, (grid0.coords t 1).isLt⟩ : Fin 8) h (0 : Fin 128)))
        (iblk m hO c 5 t (ix2 (⟨(grid0.coords t 1).val, (grid0.coords t 1).isLt⟩ : Fin 8) a)) := by
  rw [outsAt0_C m hO hH c t h0 h1]
  frame_out
  refine (pay1_at _ _ _ (grid0.coords t) _ _ (k0_off64_eq _) (k0_off65_eq _) h a).trans ?_
  refine Ideal.add_congr ?_ ?_
  · refine (acc_at (arg14 := scM0_3) (hv := hv) (hn := ?hn) (hL := ?hL) (h := h) (a := a) ..).trans ?_
    case hn => rfl
    case hL => exact (congrArg (pb_k0_t2 (F := Ideal)  _ _ _ _ _ _ _ _ _ _ _ _ _ _ _ _ _ _ _ _ _ _ _ _ _ _ _ _ _ _ _ _ _ _ _ _ _ _) (t2_trips (lenAt m t))).trans rfl
    exact cacheSum_congr rfl ((hs0_2 m hO t).read_unread _)
      (read_canon (View.whole cc0_scratch1) _ _ (View.cover_of_tiledL _ S1x8x2x5120.size (by sl_kernel_rfl))) rfl
  · exact Ideal.mul_congr rfl (congrFun ((hs0_5 m hO t).read_unread _) _)

set_option maxHeartbeats 400000 in
theorem out_A (hO : Ok m) (hH : Hyps m hO) (c : Dev nD) (t : Fin (cfgM m hO).N) (hv : (lenAt m t).toInt ≤ 5120) (h0 : t.val % 128 = 0) (h1 : t.val % 8 = 0) (h : Fin 16) (a : Fin 480) :
    (outsAt0 m hO hH c t.val t.isLt).1 (ix3 (0 : Fin 1) h a)
      = tail (cacheSum (k0_t1_loop (lenAt m t)).trips (iblk m hO c 2 t) (outsAt0 m hO hH c t.val t.isLt).2.2.1 (outsAt0 m hO hH c t.val t.isLt).2.1
          ⟨(grid0.coords t 1).val, (grid0.coords t 1).isLt⟩ a h)
        ((outsAt0 m hO hH c t.val t.isLt).2.2.2 (ix3 (⟨(grid0.coords t 1).val, (grid0.coords t 1).isLt⟩ : Fin 8) h (0 : Fin 128)))
        (iblk m hO c 5 t (ix2 (⟨(grid0.coords t 1).val, (grid0.coords t 1).isLt⟩ : Fin 8) a)) := by
  rw [outsAt0_A m hO hH c t h0 h1]
  frame_out
  refine (pay1_at _ _ _ (grid0.coords t) _ _ (k0_off64_eq _) (k0_off65_eq _) h a).trans ?_
  refine Ideal.add_congr ?_ ?_
  · refine (acc_at (arg14 := scM0_3) (hv := hv) (hn := ?hn) (hL := ?hL) (h := h) (a := a) ..).trans ?_
    case hn => rfl
    case hL => exact (congrArg (pb_k0_t2 (F := Ideal)  _ _ _ _ _ _ _ _ _ _ _ _ _ _ _ _ _ _ _ _ _ _ _ _ _ _ _ _ _ _ _ _ _ _ _ _ _ _) (t2_trips (lenAt m t))).trans rfl
    refine cacheSum_congr rfl ((hs0_2 m hO t).read_unread _)
      (read_canon (View.whole cc0_scratch1) _ _ (View.cover_of_tiledL _ S1x8x2x5120.size (by sl_kernel_rfl))) ?_
    exact read_canon (View.whole cc0_scratch0) _ _ (View.cover_of_wholeMem _ (by sl_whole_mem))
  · exact Ideal.mul_congr rfl (congrFun ((hs0_5 m hO t).read_unread _) _)

end Cert.ValuesIdeal.Own
end
-- ==== Proof.ValuesStored.lean ====
module
public import proofs.«01_k».proof.Proof.ValuesStep
@[expose] public section
set_option maxRecDepth 16384
noncomputable section
namespace Cert.ValuesIdeal.Own
open Cert.ValuesIdeal Cert.ValuesIdeal.Gen
open Idealize.ShloMosaic Idealize.ShloMosaic.TcCoe Idealize.ShloMosaic.Pipeline
/-- The score of the token being decoded. -/
def sNew (x k : Fin 96 → EReal) : EReal := Ideal.ofBits FTy.f32 1037108716#32 * ∑ j, x j * k j

/-- A cached score, minus infinity past the cache length. -/
def sAt (v : BitVec 32) (s : Fin 5120 → EReal) (q : Fin 5120) : EReal :=
  Scalar.select (IntOp.cmpi CmpIPredicate.slt (BitVec.ofNat 32 q.val) v) (s q) (Ideal.ofBits FTy.f32 4286578688#32)

/-- The largest of all the scores of a head. -/
def top (v : BitVec 32) (s : Fin 5120 → EReal) (n : EReal) : EReal :=
  max (Finset.fold max (Ideal.ofBits FTy.f32 4286578688#32) (fun q => sAt v s q) Finset.univ) n

/-- The denominator of the softmax of a head. -/
def den (v : BitVec 32) (s : Fin 5120 → EReal) (n : EReal) : EReal :=
  ∑ q, Ideal.exp (sAt v s q - top v s n) + Ideal.exp (n - top v s n)

/-- The weight of a cached position. -/
def pAt (v : BitVec 32) (s : Fin 5120 → EReal) (n : EReal) (q : Fin 5120) : EReal :=
  Ideal.exp (sAt v s q - top v s n) * Ideal.div 1 (den v s n)

/-- The weight of the token being decoded. -/
def pNew (v : BitVec 32) (s : Fin 5120 → EReal) (n : EReal) : EReal :=
  Ideal.exp (n - top v s n) * Ideal.div 1 (den v s n)

theorem head_at (lv : Vec Ideal S8x1 .i32) (xv kv : Vec Ideal S8x96 .bf16) (sv : Vec Ideal S1x8x5120 .f32) (b : Fin 8) (q : Fin 5120) :
    k0_pay9 lv xv kv sv (ix2 b q)
      = pAt (lv (ix2 b (0 : Fin 1))) (fun q => sv (ix3 (0 : Fin 1) b q)) (sNew (fun j => xv (ix2 b j)) fun j => kv (ix2 b j)) q := by
  unfold pAt den top sAt sNew
  pointwise [k0_pay9, k0_pay8, k0_pay7, k0_pay6, k0_pay5, k0_pay4, k0_pay3, k0_pay2]

theorem new_at (lv : Vec Ideal S8x1 .i32) (xv kv : Vec Ideal S8x96 .bf16) (sv : Vec Ideal S1x8x5120 .f32) (b : Fin 8) (l : Fin 128) :
    k0_pay10 lv xv kv sv (ix2 b l)
      = pNew (lv (ix2 b (0 : Fin 1))) (fun q => sv (ix3 (0 : Fin 1) b q)) (sNew (fun j => xv (ix2 b j)) fun j => kv (ix2 b j)) := by
  unfold pNew den top sAt sNew
  pointwise [k0_pay10, k0_pay8, k0_pay7, k0_pay6, k0_pay5, k0_pay4, k0_pay3, k0_pay2]

theorem sNew_congr {x x' k k' : Fin 96 → EReal} (hx : x = x') (hk : k = k') : sNew x k = sNew x' k' := by rw [hx, hk]

theorem pAt_congr {v v' : BitVec 32} {s s' : Fin 5120 → EReal} {n n' : EReal} {q : Fin 5120} (hv : v = v') (hs : s = s') (hn : n = n') :
    pAt v s n q = pAt v' s' n' q := by rw [hv, hs, hn]

theorem pNew_congr {v v' : BitVec 32} {s s' : Fin 5120 → EReal} {n n' : EReal} (hv : v = v') (hs : s = s') (hn : n = n') :
    pNew v s n = pNew v' s' n' := by rw [hv, hs, hn]

/-- One head's tile of scores, minus the leading unit axis kept. -/
abbrev tileS (X : Vec Ideal S10x8x5120 .f32) (h : ℕ) (hh : h < 10) : Vec Ideal S1x8x5120 .f32 :=
  View.ld (Val := Elt Ideal) X (Rect.unit (s := S10x8x5120) ![h, 0, 0] ![1, 8, 5120] fun a => by
    have := hh; revert a; simp [Fin.forall_fin_succ, S10x8x5120]; omega)

/-- One head's columns of the queries. -/
abbrev tileX (X : Vec Ideal S8x960 .bf16) (h : ℕ) (hh : h < 10) : Vec Ideal S8x96 .bf16 :=
  View.ld (Val := Elt Ideal) X (Rect.unit (s := S8x960) ![0, 96 * h] ![8, 96] fun a => by
    have := hh; revert a; simp [Fin.forall_fin_succ, S8x960]; omega)

/-- One key-value head's columns of the new key. -/
abbrev tileK (X : Vec Ideal S8x480 .bf16) (h : ℕ) (hh : h < 5) : Vec Ideal S8x96 .bf16 :=
  View.ld (Val := Elt Ideal) X (Rect.unit (s := S8x480) ![0, 96 * h] ![8, 96] fun a => by
    have := hh; revert a; simp [Fin.forall_fin_succ, S8x480]; omega)

/-- The column that holds the cache lengths. -/
abbrev tileL (X : Vec Ideal S8x128 .i32) : Vec Ideal S8x1 .i32 :=
  View.ld (Val := Elt Ideal) X (Rect.unit (s := S8x128) ![0, 0] ![8, 1] inb_S8x128_S8x1_0_0)

/-- One row of scales. -/
abbrev tileV (X : Vec Ideal S15x8x5120 .f32) (r : ℕ) (hr : r < 15) : Vec Ideal S1x8x5120 .f32 :=
  View.ld (Val := Elt Ideal) X (Rect.unit (s := S15x8x5120) ![r, 0, 0] ![1, 8, 5120] fun a => by
    have := hr; revert a; simp [Fin.forall_fin_succ, S15x8x5120]; omega)

/-- Two heads that share a key-value head, as they are stored. -/
abbrev pair (X0 : Vec Ideal S10x8x5120 .f32) (X3 : Vec Ideal S8x960 .bf16) (X4 : Vec Ideal S8x480 .bf16) (X6 : Vec Ideal S8x128 .i32) (k : Fin 5) :
    Vec Ideal S8x1x2x5120 .bf16 :=
  k0_pay39 (k0_pay9 (tileL X6) (tileX X3 (2 * k.val) (by omega)) (tileK X4 k.val k.isLt) (tileS X0 (2 * k.val) (by omega)))
    (k0_pay9 (tileL X6) (tileX X3 (2 * k.val + 1) (by omega)) (tileK X4 k.val k.isLt) (tileS X0 (2 * k.val + 1) (by omega)))

/-- One head's weight of the token being decoded, as it is stored. -/
abbrev newTile (X0 : Vec Ideal S10x8x5120 .f32) (X3 : Vec Ideal S8x960 .bf16) (X4 : Vec Ideal S8x480 .bf16) (X6 : Vec Ideal S8x128 .i32) (h : Fin 10) :
    Vec Ideal S8x1x128 .f32 :=
  k0_pay11 (k0_pay10 (tileL X6) (tileX X3 h.val h.isLt) (tileK X4 (h.val / 2) (by omega)) (tileS X0 h.val h.isLt))

/-- The weights of head `h` for row `b` of the block. -/
def pRow (X0 : Vec Ideal S10x8x5120 .f32) (X3 : Vec Ideal S8x960 .bf16) (X4 : Vec Ideal S8x480 .bf16) (X6 : Vec Ideal S8x128 .i32) (b : Fin 8) (h : Fin 10)
    (q : Fin 5120) : EReal :=
  pAt (X6 (ix2 b (0 : Fin 128))) (fun q => X0 (ix3 h b q))
    (sNew (fun j => X3 (ix2 b (⟨96 * h.val + j, by omega⟩ : Fin 960))) fun j => X4 (ix2 b (⟨96 * (h.val / 2) + j, by omega⟩ : Fin 480))) q

/-- The weight of the new token of head `h` for row `b` of the block. -/
def nRow (X0 : Vec Ideal S10x8x5120 .f32) (X3 : Vec Ideal S8x960 .bf16) (X4 : Vec Ideal S8x480 .bf16) (X6 : Vec Ideal S8x128 .i32) (b : Fin 8) (h : Fin 10) : EReal :=
  pNew (X6 (ix2 b (0 : Fin 128))) (fun q => X0 (ix3 h b q))
    (sNew (fun j => X3 (ix2 b (⟨96 * h.val + j, by omega⟩ : Fin 960))) fun j => X4 (ix2 b (⟨96 * (h.val / 2) + j, by omega⟩ : Fin 480)))

theorem tileS_at (X : Vec Ideal S10x8x5120 .f32) (h : ℕ) (hh : h < 10) (b : Fin 8) (q : Fin 5120) :
    tileS X h hh (ix3 (0 : Fin 1) b q) = X (ix3 (⟨h, hh⟩ : Fin 10) b q) := by
  refine congrArg X (funext fun a => Fin.ext ?_)
  show (![h, 0, 0] : Fin _ → ℕ) a + 1 * (ix3 (0 : Fin 1) b q a).val = _
  fin_cases a <;> simp [ix2, ix3]

theorem tileX_at (X : Vec Ideal S8x960 .bf16) (h : ℕ) (hh : h < 10) (b : Fin 8) (j : Fin 96) :
    tileX X h hh (ix2 b j) = X (ix2 b (⟨96 * h + j, by omega⟩ : Fin 960)) := by
  refine congrArg X (funext fun a => Fin.ext ?_)
  show (![0, 96 * h] : Fin _ → ℕ) a + 1 * (ix2 b j a).val = _
  fin_cases a <;> simp [ix2, ix3]

theorem tileK_at (X : Vec Ideal S8x480 .bf16) (h : ℕ) (hh : h < 5) (b : Fin 8) (j : Fin 96) :
    tileK X h hh (ix2 b j) = X (ix2 b (⟨96 * h + j, by omega⟩ : Fin 480)) := by
  refine congrArg X (funext fun a => Fin.ext ?_)
  show (![0, 96 * h] : Fin _ → ℕ) a + 1 * (ix2 b j a).val = _
  fin_cases a <;> simp [ix2, ix3]

theorem tileL_at (X : Vec Ideal S8x128 .i32) (b : Fin 8) : tileL X (ix2 b (0 : Fin 1)) = X (ix2 b (0 : Fin 128)) := by
  refine congrArg X (funext fun a => Fin.ext ?_)
  show (![0, 0] : Fin _ → ℕ) a + 1 * (ix2 b (0 : Fin 1) a).val = _
  fin_cases a <;> simp [ix2, ix3]

theorem tileV_at (X : Vec Ideal S15x8x5120 .f32) (h : ℕ) (hh : h < 15) (b : Fin 8) (q : Fin 5120) :
    tileV X h hh (ix3 (0 : Fin 1) b q) = X (ix3 (⟨h, hh⟩ : Fin 15) b q) := by
  refine congrArg X (funext fun a => Fin.ext ?_)
  show (![h, 0, 0] : Fin _ → ℕ) a + 1 * (ix3 (0 : Fin 1) b q a).val = _
  fin_cases a <;> simp [ix2, ix3]

theorem two_at (u w : FVec Ideal S8x5120 .f32) (b : Fin 8) (g : Fin 2) (q : Fin 5120) :
    k0_pay39 u w (ix4 b (0 : Fin 1) g q) = if g = 0 then u (ix2 b q) else w (ix2 b q) := by
  fin_cases g <;> pointwise [k0_pay39]

theorem pair_at (X0 : Vec Ideal S10x8x5120 .f32) (X3 : Vec Ideal S8x960 .bf16) (X4 : Vec Ideal S8x480 .bf16) (X6 : Vec Ideal S8x128 .i32) (k : Fin 5)
    (b : Fin 8) (g : Fin 2) (q : Fin 5120) : pair X0 X3 X4 X6 k (ix4 b (0 : Fin 1) g q) = pRow X0 X3 X4 X6 b ⟨2 * k.val + g.val, by omega⟩ q := by
  refine (two_at _ _ b g q).trans ?_
  unfold pRow
  fin_cases g
  · exact (head_at _ _ _ _ b q).trans (pAt_congr (tileL_at _ _) (funext fun q => tileS_at _ _ _ _ _)
      (sNew_congr (funext fun j => tileX_at _ _ _ _ _) (funext fun j => (tileK_at _ _ _ _ _).trans
        (congrArg X4 (congrArg (ix2 b) (Fin.ext (by simp)))))))
  · exact (head_at _ _ _ _ b q).trans (pAt_congr (tileL_at _ _) (funext fun q => tileS_at _ _ _ _ _)
      (sNew_congr (funext fun j => tileX_at _ _ _ _ _) (funext fun j => (tileK_at _ _ _ _ _).trans
        (congrArg X4 (congrArg (ix2 b) (Fin.ext (by show 96 * k.val + j.val = 96 * ((2 * k.val + 1) / 2) + j.val; omega)))))))

theorem newTile_at (X0 : Vec Ideal S10x8x5120 .f32) (X3 : Vec Ideal S8x960 .bf16) (X4 : Vec Ideal S8x480 .bf16) (X6 : Vec Ideal S8x128 .i32) (h : Fin 10)
    (b : Fin 8) : newTile X0 X3 X4 X6 h (ix3 b (0 : Fin 1) (0 : Fin 128)) = nRow X0 X3 X4 X6 b h := by
  have e : ∀ u : FVec Ideal S8x128 .f32, k0_pay11 u (ix3 b (0 : Fin 1) (0 : Fin 128)) = u (ix2 b (0 : Fin 128)) := fun u => by
    pointwise [k0_pay11]
  refine (e _).trans ((new_at _ _ _ _ b 0).trans ?_)
  exact pNew_congr (tileL_at _ _) (funext fun q => tileS_at _ _ _ _ _)
    (sNew_congr (funext fun j => tileX_at _ _ _ _ _) (funext fun j => tileK_at _ _ _ _ _))

theorem both_at (u : Vec Ideal S1x8x5120 .f32) (b : Fin 8) (g : Fin 2) (q : Fin 5120) :
    k0_pay95 u (ix4 (0 : Fin 1) b g q) = (u (ix3 (0 : Fin 1) b q) : EReal) := by
  fin_cases g <;> pointwise [k0_pay95]

/-- Tiles stored one over the other along an axis, over anything stored before. -/
theorem read_tiles {sig : RefSig} {κ : Kind} {sp : Space} {s : Shape} {e : EltTy} {NT : ℕ} (v : View sig κ sp s e) (f : v.ty.Contents (Elt Ideal)) (tsz : Fin s.rank → ℕ)
    (off : Fin NT → Fin s.rank → ℕ) (inb : ∀ i a, off i a + tsz a ≤ s.size a) (P : Fin NT → (⟨s.rank, tsz⟩ : Shape).Idx → Elt Ideal e)
    (L : List (View.Piece (Elt Ideal) s e)) (y : s.Idx) (i : Fin NT) (x : (⟨s.rank, tsz⟩ : Shape).Idx)
    (hx : ∀ a, (y a).val = off i a + (x a).val) (ax : Fin s.rank)
    (hdis : ∀ i' : Fin NT, i' ≠ i → (y ax).val < off i' ax ∨ off i' ax + tsz ax ≤ (y ax).val) :
    v.read (Elt Ideal) (v.writes (Elt Ideal) f (View.tilePieces tsz off inb P NT le_rfl ++ L)) y = P i x := by
  rw [View.writes_append]
  exact View.read_tilePieces v _ tsz off inb P NT le_rfl y i i.isLt x hx ax hdis

variable (m : (ℓ : Loc nD τ sig) → Buf (Elt Ideal) ℓ)

theorem read_pairs (v : View sig .tc .vmem S8x8x2x5120 .bf16) (f) (P : Fin 5 → Vec Ideal S8x1x2x5120 .bf16) (L) (k : Fin 5) (b : Fin 8) (g : Fin 2) (q : Fin 5120) :
    v.read (Elt Ideal) (v.writes (Elt Ideal) f (View.tilePieces ![8, 1, 2, 5120] (fun k : Fin 5 => ![0, k.val, 0, 0]) (fun k a => by
      revert a; simp [Fin.forall_fin_succ, S8x8x2x5120]; omega) P 5 le_rfl ++ L)) (ix4 b (⟨k.val, by omega⟩ : Fin 8) g q) = P k (ix4 b (0 : Fin 1) g q) := by
  refine read_tiles v f _ _ _ P L _ k (ix4 b (0 : Fin 1) g q) (fun a => ?_) (1 : Fin 4) fun k' hk => ?_
  · fin_cases a <;> simp [ix4]
  · show k.val < k'.val ∨ k'.val + 1 ≤ k.val
    have : k'.val ≠ k.val := fun e => hk (Fin.ext e)
    omega

theorem read_news (v : View sig .tc .vmem S8x16x128 .f32) (f) (P : Fin 10 → Vec Ideal S8x1x128 .f32) (L) (h : Fin 10) (b : Fin 8) (l : Fin 128) :
    v.read (Elt Ideal) (v.writes (Elt Ideal) f (View.tilePieces ![8, 1, 128] (fun h : Fin 10 => ![0, h.val, 0]) (fun k a => by
      revert a; simp [Fin.forall_fin_succ, S8x16x128]; omega) P 10 le_rfl ++ L)) (ix3 b (⟨h.val, by omega⟩ : Fin 16) l) = P h (ix3 b (0 : Fin 1) l) := by
  refine read_tiles v f _ _ _ P L _ h (ix3 b (0 : Fin 1) l) (fun a => ?_) (1 : Fin 3) fun k' hk => ?_
  · fin_cases a <;> simp [ix3]
  · show h.val < k'.val ∨ k'.val + 1 ≤ h.val
    have : k'.val ≠ h.val := fun e => hk (Fin.ext e)
    omega

theorem read_scales (v : View sig .tc .vmem S15x8x2x5120 .bf16) (f) (P : Fin 15 → Vec Ideal S1x8x2x5120 .bf16) (L) (r : Fin 15) (b : Fin 8) (g : Fin 2) (q : Fin 5120) :
    v.read (Elt Ideal) (v.writes (Elt Ideal) f (View.tilePieces ![1, 8, 2, 5120] (fun h : Fin 15 => ![h.val, 0, 0, 0]) (fun k a => by
      revert a; simp [Fin.forall_fin_succ, S15x8x2x5120]) P 15 le_rfl ++ L)) (ix4 r b g q) = P r (ix4 (0 : Fin 1) b g q) := by
  refine read_tiles v f _ _ _ P L _ r (ix4 (0 : Fin 1) b g q) (fun a => ?_) (0 : Fin 4) fun k' hk => ?_
  · fin_cases a <;> simp [ix4]
  · show r.val < k'.val ∨ k'.val + 1 ≤ r.val
    have : k'.val ≠ r.val := fun e => hk (Fin.ext e)
    omega

theorem pRow_congr {X0 Y0 : Vec Ideal S10x8x5120 .f32} {X3 Y3 : Vec Ideal S8x960 .bf16} {X4 Y4 : Vec Ideal S8x480 .bf16} {X6 Y6 : Vec Ideal S8x128 .i32} {b : Fin 8}
    {h : Fin 10} {q : Fin 5120} (h0 : X0 = Y0) (h3 : X3 = Y3) (h4 : X4 = Y4) (h6 : X6 = Y6) : pRow X0 X3 X4 X6 b h q = pRow Y0 Y3 Y4 Y6 b h q := by
  rw [h0, h3, h4, h6]

theorem nRow_congr {X0 Y0 : Vec Ideal S10x8x5120 .f32} {X3 Y3 : Vec Ideal S8x960 .bf16} {X4 Y4 : Vec Ideal S8x480 .bf16} {X6 Y6 : Vec Ideal S8x128 .i32} {b : Fin 8}
    {h : Fin 10} (h0 : X0 = Y0) (h3 : X3 = Y3) (h4 : X4 = Y4) (h6 : X6 = Y6) : nRow X0 X3 X4 X6 b h = nRow Y0 Y3 Y4 Y6 b h := by
  rw [h0, h3, h4, h6]

set_option maxHeartbeats 400000 in
theorem weights_C (hO : Ok m) (hH : Hyps m hO) (c : Dev nD) (t : Fin (cfgM m hO).N) (h0 : ¬t.val % 128 = 0) (h1 : t.val % 8 = 0) (k : Fin 5) (b : Fin 8) (g : Fin 2) (q : Fin 5120) :
    (outsAt0 m hO hH c t.val t.isLt).2.1 (ix4 b (⟨k.val, by omega⟩ : Fin 8) g q)
      = pRow (iblk m hO c 0 t) (iblk m hO c 3 t) (iblk m hO c 4 t) (iblk m hO c 6 t) b ⟨2 * k.val + g.val, by omega⟩ q := by
  rw [outsAt0_C m hO hH c t h0 h1]
  frame_out
  refine (read_pairs (View.whole cc0_scratch0) _ (pair (View.read (Elt Ideal) (ms0_0 m hO t).view ((hs0_0 m hO t).unread (iblk m hO c 0 t)))
    (View.read (Elt Ideal) (ms0_3 m hO t).view ((hs0_3 m hO t).unread (iblk m hO c 3 t)))
    (View.read (Elt Ideal) (ms0_4 m hO t).view ((hs0_4 m hO t).unread (iblk m hO c 4 t)))
    (View.read (Elt Ideal) (ms0_6 m hO t).view ((hs0_6 m hO t).unread (iblk m hO c 6 t)))) [] k b g q).trans ?_
  refine (pair_at _ _ _ _ k b g q).trans ?_
  exact pRow_congr ((hs0_0 m hO t).read_unread _) ((hs0_3 m hO t).read_unread _) ((hs0_4 m hO t).read_unread _) ((hs0_6 m hO t).read_unread _)

set_option maxHeartbeats 400000 in
theorem news_C (hO : Ok m) (hH : Hyps m hO) (c : Dev nD) (t : Fin (cfgM m hO).N) (h0 : ¬t.val % 128 = 0) (h1 : t.val % 8 = 0) (h : Fin 10) (b : Fin 8) :
    (outsAt0 m hO hH c t.val t.isLt).2.2.2 (ix3 b (⟨h.val, by omega⟩ : Fin 16) (0 : Fin 128))
      = nRow (iblk m hO c 0 t) (iblk m hO c 3 t) (iblk m hO c 4 t) (iblk m hO c 6 t) b h := by
  rw [outsAt0_C m hO hH c t h0 h1]
  frame_out
  refine (read_news (View.whole cc0_scratch2) _ (newTile (View.read (Elt Ideal) (ms0_0 m hO t).view ((hs0_0 m hO t).unread (iblk m hO c 0 t)))
    (View.read (Elt Ideal) (ms0_3 m hO t).view ((hs0_3 m hO t).unread (iblk m hO c 3 t)))
    (View.read (Elt Ideal) (ms0_4 m hO t).view ((hs0_4 m hO t).unread (iblk m hO c 4 t)))
    (View.read (Elt Ideal) (ms0_6 m hO t).view ((hs0_6 m hO t).unread (iblk m hO c 6 t)))) [] h b 0).trans ?_
  refine (newTile_at _ _ _ _ h b).trans ?_
  exact nRow_congr ((hs0_0 m hO t).read_unread _) ((hs0_3 m hO t).read_unread _) ((hs0_4 m hO t).read_unread _) ((hs0_6 m hO t).read_unread _)

set_option maxHeartbeats 400000 in
theorem scales_C (hO : Ok m) (hH : Hyps m hO) (c : Dev nD) (t : Fin (cfgM m hO).N) (h0 : ¬t.val % 128 = 0) (h1 : t.val % 8 = 0) (r : Fin 15) (b : Fin 8) (g : Fin 2) (q : Fin 5120) :
    (outsAt0 m hO hH c t.val t.isLt).2.2.1 (ix4 r b g q) = (iblk m hO c 1 t (ix3 r b q) : EReal) := by
  rw [outsAt0_C m hO hH c t h0 h1]
  frame_out
  refine (congrFun (read_canon (View.whole cc0_scratch1) ((Memref.isWhole_whole cc0_scratch1).unread (Val := Elt Ideal) (outsAt0 m hO hH c t.val t.isLt).2.2.1) _
    (View.cover_of_tiledL _ S1x8x2x5120.size (by sl_kernel_rfl))).symm _).trans ?_
  refine (read_scales (View.whole cc0_scratch1) _ (fun r => k0_pay95 (tileV (View.read (Elt Ideal) (ms0_1 m hO t).view ((hs0_1 m hO t).unread (iblk m hO c 1 t))) r.val r.isLt)) [] r b g q).trans ?_
  refine (both_at _ b g q).trans ((tileV_at _ _ _ b q).trans ?_)
  exact congrFun ((hs0_1 m hO t).read_unread _) _

set_option maxHeartbeats 400000 in
theorem weights_A (hO : Ok m) (hH : Hyps m hO) (c : Dev nD) (t : Fin (cfgM m hO).N) (h0 : t.val % 128 = 0) (h1 : t.val % 8 = 0) (k : Fin 5) (b : Fin 8) (g : Fin 2) (q : Fin 5120) :
    (outsAt0 m hO hH c t.val t.isLt).2.1 (ix4 b (⟨k.val, by omega⟩ : Fin 8) g q)
      = pRow (iblk m hO c 0 t) (iblk m hO c 3 t) (iblk m hO c 4 t) (iblk m hO c 6 t) b ⟨2 * k.val + g.val, by omega⟩ q := by
  rw [outsAt0_A m hO hH c t h0 h1]
  frame_out
  refine (congrFun (read_canon (View.whole cc0_scratch0) ((Memref.isWhole_whole cc0_scratch0).unread (Val := Elt Ideal) (outsAt0 m hO hH c t.val t.isLt).2.1) _
    (View.cover_of_wholeMem _ (by sl_whole_mem))).symm _).trans ?_
  refine (read_pairs (View.whole cc0_scratch0) _ (pair (View.read (Elt Ideal) (ms0_0 m hO t).view ((hs0_0 m hO t).unread (iblk m hO c 0 t)))
    (View.read (Elt Ideal) (ms0_3 m hO t).view ((hs0_3 m hO t).unread (iblk m hO c 3 t)))
    (View.read (Elt Ideal) (ms0_4 m hO t).view ((hs0_4 m hO t).unread (iblk m hO c 4 t)))
    (View.read (Elt Ideal) (ms0_6 m hO t).view ((hs0_6 m hO t).unread (iblk m hO c 6 t)))) [_] k b g q).trans ?_
  refine (pair_at _ _ _ _ k b g q).trans ?_
  exact pRow_congr ((hs0_0 m hO t).read_unread _) ((hs0_3 m hO t).read_unread _) ((hs0_4 m hO t).read_unread _) ((hs0_6 m hO t).read_unread _)

set_option maxHeartbeats 400000 in
theorem news_A (hO : Ok m) (hH : Hyps m hO) (c : Dev nD) (t : Fin (cfgM m hO).N) (h0 : t.val % 128 = 0) (h1 : t.val % 8 = 0) (h : Fin 10) (b : Fin 8) :
    (outsAt0 m hO hH c t.val t.isLt).2.2.2 (ix3 b (⟨h.val, by omega⟩ : Fin 16) (0 : Fin 128))
      = nRow (iblk m hO c 0 t) (iblk m hO c 3 t) (iblk m hO c 4 t) (iblk m hO c 6 t) b h := by
  rw [outsAt0_A m hO hH c t h0 h1]
  frame_out
  refine (congrFun (read_canon (View.whole cc0_scratch2) ((Memref.isWhole_whole cc0_scratch2).unread (Val := Elt Ideal) (outsAt0 m hO hH c t.val t.isLt).2.2.2) _
    (View.cover_of_wholeMem _ (by sl_whole_mem))).symm _).trans ?_
  refine (read_news (View.whole cc0_scratch2) _ (newTile (View.read (Elt Ideal) (ms0_0 m hO t).view ((hs0_0 m hO t).unread (iblk m hO c 0 t)))
    (View.read (Elt Ideal) (ms0_3 m hO t).view ((hs0_3 m hO t).unread (iblk m hO c 3 t)))
    (View.read (Elt Ideal) (ms0_4 m hO t).view ((hs0_4 m hO t).unread (iblk m hO c 4 t)))
    (View.read (Elt Ideal) (ms0_6 m hO t).view ((hs0_6 m hO t).unread (iblk m hO c 6 t)))) [_] h b 0).trans ?_
  refine (newTile_at _ _ _ _ h b).trans ?_
  exact nRow_congr ((hs0_0 m hO t).read_unread _) ((hs0_3 m hO t).read_unread _) ((hs0_4 m hO t).read_unread _) ((hs0_6 m hO t).read_unread _)

set_option maxHeartbeats 400000 in
theorem scales_A (hO : Ok m) (hH : Hyps m hO) (c : Dev nD) (t : Fin (cfgM m hO).N) (h0 : t.val % 128 = 0) (h1 : t.val % 8 = 0) (r : Fin 15) (b : Fin 8) (g : Fin 2) (q : Fin 5120) :
    (outsAt0 m hO hH c t.val t.isLt).2.2.1 (ix4 r b g q) = (iblk m hO c 1 t (ix3 r b q) : EReal) := by
  rw [outsAt0_A m hO hH c t h0 h1]
  frame_out
  refine (congrFun (read_canon (View.whole cc0_scratch1) ((Memref.isWhole_whole cc0_scratch1).unread (Val := Elt Ideal) (outsAt0 m hO hH c t.val t.isLt).2.2.1) _
    (View.cover_of_tiledL _ S1x8x2x5120.size (by sl_kernel_rfl))).symm _).trans ?_
  refine (read_scales (View.whole cc0_scratch1) _ (fun r => k0_pay95 (tileV (View.read (Elt Ideal) (ms0_1 m hO t).view ((hs0_1 m hO t).unread (iblk m hO c 1 t))) r.val r.isLt)) [] r b g q).trans ?_
  refine (both_at _ b g q).trans ((tileV_at _ _ _ b q).trans ?_)
  exact congrFun ((hs0_1 m hO t).read_unread _) _

theorem weights_B (hO : Ok m) (hH : Hyps m hO) (c : Dev nD) (t : Fin (cfgM m hO).N) (h0 : ¬t.val % 128 = 0) (h1 : ¬t.val % 8 = 0) :
    (outsAt0 m hO hH c t.val t.isLt).2.1 = (outsAt0 m hO hH c (t.val - 1) (Nat.lt_of_le_of_lt (Nat.sub_le _ _) t.isLt)).2.1 := by
  rw [outsAt0_B m hO hH c t h0 h1]
  rfl

theorem scales_B (hO : Ok m) (hH : Hyps m hO) (c : Dev nD) (t : Fin (cfgM m hO).N) (h0 : ¬t.val % 128 = 0) (h1 : ¬t.val % 8 = 0) :
    (outsAt0 m hO hH c t.val t.isLt).2.2.1 = (outsAt0 m hO hH c (t.val - 1) (Nat.lt_of_le_of_lt (Nat.sub_le _ _) t.isLt)).2.2.1 := by
  rw [outsAt0_B m hO hH c t h0 h1]
  rfl

theorem news_B (hO : Ok m) (hH : Hyps m hO) (c : Dev nD) (t : Fin (cfgM m hO).N) (h0 : ¬t.val % 128 = 0) (h1 : ¬t.val % 8 = 0) :
    (outsAt0 m hO hH c t.val t.isLt).2.2.2 = (outsAt0 m hO hH c (t.val - 1) (Nat.lt_of_le_of_lt (Nat.sub_le _ _) t.isLt)).2.2.2 := by
  rw [outsAt0_B m hO hH c t h0 h1]
  rfl

end Cert.ValuesIdeal.Own
end
-- ==== Proof.ValuesRows.lean ====
module
public import proofs.«01_k».proof.Proof.ValuesStored
@[expose] public section
set_option maxRecDepth 16384
noncomputable section
namespace Cert.ValuesIdeal.Own
open Cert.ValuesIdeal Cert.ValuesIdeal.Gen
open Idealize.ShloMosaic Idealize.ShloMosaic.TcCoe Idealize.ShloMosaic.Pipeline
theorem coords_val (t : Fin grid0.N) : (grid0.coords t 0).val = t.val / 8 ∧ (grid0.coords t 1).val = t.val % 8 :=
  (by decide +kernel : ∀ t : Fin grid0.N, (grid0.coords t 0).val = t.val / 8 ∧ (grid0.coords t 1).val = t.val % 8) t

theorem lt_128 {t : ℕ} (h : t < grid0.N) : t < 128 := h

/-- The row of the arrays that row `b` of the block at point `t` is. -/
abbrev row (t : Fin grid0.N) (b : Fin 8) : Fin 128 := ⟨8 * (t.val / 8) + b.val, by have := lt_128 t.isLt; omega⟩

variable (m : (ℓ : Loc nD τ sig) → Buf (Elt Ideal) ℓ)

theorem index_0 (t : Fin grid0.N) : cc0_transform_0 (grid0.coords t) 0 = 0 ∧ cc0_transform_0 (grid0.coords t) 1 = t.val / 8 ∧ cc0_transform_0 (grid0.coords t) 2 = 0 :=
  (by decide +kernel : ∀ t : Fin grid0.N, cc0_transform_0 (grid0.coords t) 0 = 0 ∧ cc0_transform_0 (grid0.coords t) 1 = t.val / 8 ∧ cc0_transform_0 (grid0.coords t) 2 = 0) t

theorem blk_0 (hO : Ok m) (c : Dev nD) (t : Fin (cfgM m hO).N) (h : Fin 10) (b : Fin 8) (q : Fin 5120) :
    iblk m hO c 0 t (ix3 h b q) = V m c main_arg3 (ix3 h (row t b) q) := by
  obtain ⟨e0, e1, e2⟩ := index_0 t
  refine congrArg (V m c main_arg3) (funext fun a => Fin.ext ?_)
  match a with
  | ⟨0, _⟩ => show cc0_transform_0 (grid0.coords t) 0 * 10 + 1 * h.val = h.val; rw [e0]; omega
  | ⟨1, _⟩ => show cc0_transform_0 (grid0.coords t) 1 * 8 + 1 * b.val = 8 * (t.val / 8) + b.val; rw [e1]; omega
  | ⟨2, _⟩ => show cc0_transform_0 (grid0.coords t) 2 * 5120 + 1 * q.val = q.val; rw [e2]; omega

theorem index_1 (t : Fin grid0.N) : cc0_transform_1 (grid0.coords t) 0 = 0 ∧ cc0_transform_1 (grid0.coords t) 1 = t.val / 8 ∧ cc0_transform_1 (grid0.coords t) 2 = 0 :=
  (by decide +kernel : ∀ t : Fin grid0.N, cc0_transform_1 (grid0.coords t) 0 = 0 ∧ cc0_transform_1 (grid0.coords t) 1 = t.val / 8 ∧ cc0_transform_1 (grid0.coords t) 2 = 0) t

theorem blk_1 (hO : Ok m) (c : Dev nD) (t : Fin (cfgM m hO).N) (h : Fin 15) (b : Fin 8) (q : Fin 5120) :
    iblk m hO c 1 t (ix3 h b q) = V m c main_v3 (ix3 h (row t b) q) := by
  obtain ⟨e0, e1, e2⟩ := index_1 t
  refine congrArg (V m c main_v3) (funext fun a => Fin.ext ?_)
  match a with
  | ⟨0, _⟩ => show cc0_transform_1 (grid0.coords t) 0 * 15 + 1 * h.val = h.val; rw [e0]; omega
  | ⟨1, _⟩ => show cc0_transform_1 (grid0.coords t) 1 * 8 + 1 * b.val = 8 * (t.val / 8) + b.val; rw [e1]; omega
  | ⟨2, _⟩ => show cc0_transform_1 (grid0.coords t) 2 * 5120 + 1 * q.val = q.val; rw [e2]; omega

theorem index_2 (t : Fin grid0.N) : cc0_transform_2 (grid0.coords t) 0 = t.val ∧ cc0_transform_2 (grid0.coords t) 1 = 0 ∧ cc0_transform_2 (grid0.coords t) 2 = 0 :=
  (by decide +kernel : ∀ t : Fin grid0.N, cc0_transform_2 (grid0.coords t) 0 = t.val ∧ cc0_transform_2 (grid0.coords t) 1 = 0 ∧ cc0_transform_2 (grid0.coords t) 2 = 0) t

theorem blk_2 (hO : Ok m) (c : Dev nD) (t : Fin (cfgM m hO).N) (z : Fin 1) (d : Fin 480) (q : Fin 5120) :
    iblk m hO c 2 t (ix3 z d q) = V m c main_v1 (ix3 (⟨t.val, lt_128 t.isLt⟩ : Fin 128) d q) := by
  obtain ⟨e0, e1, e2⟩ := index_2 t
  refine congrArg (V m c main_v1) (funext fun a => Fin.ext ?_)
  match a with
  | ⟨0, _⟩ => show cc0_transform_2 (grid0.coords t) 0 * 1 + 1 * z.val = t.val; rw [e0]; omega
  | ⟨1, _⟩ => show cc0_transform_2 (grid0.coords t) 1 * 480 + 1 * d.val = d.val; rw [e1]; omega
  | ⟨2, _⟩ => show cc0_transform_2 (grid0.coords t) 2 * 5120 + 1 * q.val = q.val; rw [e2]; omega

theorem index_3 (t : Fin grid0.N) : cc0_transform_3 (grid0.coords t) 0 = t.val / 8 ∧ cc0_transform_3 (grid0.coords t) 1 = 0 :=
  (by decide +kernel : ∀ t : Fin grid0.N, cc0_transform_3 (grid0.coords t) 0 = t.val / 8 ∧ cc0_transform_3 (grid0.coords t) 1 = 0) t

theorem blk_3 (hO : Ok m) (c : Dev nD) (t : Fin (cfgM m hO).N) (b : Fin 8) (j : Fin 960) :
    iblk m hO c 3 t (ix2 b j) = V m c main_v4 (ix2 (row t b) j) := by
  obtain ⟨e0, e1⟩ := index_3 t
  refine congrArg (V m c main_v4) (funext fun a => Fin.ext ?_)
  match a with
  | ⟨0, _⟩ => show cc0_transform_3 (grid0.coords t) 0 * 8 + 1 * b.val = 8 * (t.val / 8) + b.val; rw [e0]; omega
  | ⟨1, _⟩ => show cc0_transform_3 (grid0.coords t) 1 * 960 + 1 * j.val = j.val; rw [e1]; omega

theorem index_4 (t : Fin grid0.N) : cc0_transform_4 (grid0.coords t) 0 = t.val / 8 ∧ cc0_transform_4 (grid0.coords t) 1 = 0 :=
  (by decide +kernel : ∀ t : Fin grid0.N, cc0_transform_4 (grid0.coords t) 0 = t.val / 8 ∧ cc0_transform_4 (grid0.coords t) 1 = 0) t

theorem blk_4 (hO : Ok m) (c : Dev nD) (t : Fin (cfgM m hO).N) (b : Fin 8) (j : Fin 480) :
    iblk m hO c 4 t (ix2 b j) = V m c main_v5 (ix2 (row t b) j) := by
  obtain ⟨e0, e1⟩ := index_4 t
  refine congrArg (V m c main_v5) (funext fun a => Fin.ext ?_)
  match a with
  | ⟨0, _⟩ => show cc0_transform_4 (grid0.coords t) 0 * 8 + 1 * b.val = 8 * (t.val / 8) + b.val; rw [e0]; omega
  | ⟨1, _⟩ => show cc0_transform_4 (grid0.coords t) 1 * 480 + 1 * j.val = j.val; rw [e1]; omega

theorem index_5 (t : Fin grid0.N) : cc0_transform_5 (grid0.coords t) 0 = t.val / 8 ∧ cc0_transform_5 (grid0.coords t) 1 = 0 :=
  (by decide +kernel : ∀ t : Fin grid0.N, cc0_transform_5 (grid0.coords t) 0 = t.val / 8 ∧ cc0_transform_5 (grid0.coords t) 1 = 0) t

theorem blk_5 (hO : Ok m) (c : Dev nD) (t : Fin (cfgM m hO).N) (b : Fin 8) (j : Fin 480) :
    iblk m hO c 5 t (ix2 b j) = V m c main_v7 (ix2 (row t b) j) := by
  obtain ⟨e0, e1⟩ := index_5 t
  refine congrArg (V m c main_v7) (funext fun a => Fin.ext ?_)
  match a with
  | ⟨0, _⟩ => show cc0_transform_5 (grid0.coords t) 0 * 8 + 1 * b.val = 8 * (t.val / 8) + b.val; rw [e0]; omega
  | ⟨1, _⟩ => show cc0_transform_5 (grid0.coords t) 1 * 480 + 1 * j.val = j.val; rw [e1]; omega

theorem index_6 (t : Fin grid0.N) : cc0_transform_6 (grid0.coords t) 0 = t.val / 8 ∧ cc0_transform_6 (grid0.coords t) 1 = 0 :=
  (by decide +kernel : ∀ t : Fin grid0.N, cc0_transform_6 (grid0.coords t) 0 = t.val / 8 ∧ cc0_transform_6 (grid0.coords t) 1 = 0) t

theorem blk_6 (hO : Ok m) (c : Dev nD) (t : Fin (cfgM m hO).N) (b : Fin 8) (j : Fin 128) :
    iblk m hO c 6 t (ix2 b j) = V m c main_v9 (ix2 (row t b) j) := by
  obtain ⟨e0, e1⟩ := index_6 t
  refine congrArg (V m c main_v9) (funext fun a => Fin.ext ?_)
  match a with
  | ⟨0, _⟩ => show cc0_transform_6 (grid0.coords t) 0 * 8 + 1 * b.val = 8 * (t.val / 8) + b.val; rw [e0]; omega
  | ⟨1, _⟩ => show cc0_transform_6 (grid0.coords t) 1 * 128 + 1 * j.val = j.val; rw [e1]; omega

theorem v1_at (c : Dev nD) (B : Fin 128) (d : Fin 480) (q : Fin 5120) :
    V m c main_v1 (ix3 B d q) = m (c, Proc.tc.devRef main_arg4) (ix4 B q (⟨d.val / 96, by omega⟩ : Fin 5) (⟨d.val % 96, by omega⟩ : Fin 96)) := by
  entry_read
  pointwise

theorem v3_at (c : Dev nD) (r : Fin 15) (B : Fin 128) (q : Fin 5120) :
    V m c main_v3 (ix3 r B q) = m (c, Proc.tc.devRef main_arg5) (ix4 B q (⟨r.val / 3, by omega⟩ : Fin 5) (⟨r.val % 3, by omega⟩ : Fin 3)) := by
  entry_read
  pointwise

theorem v4_at (c : Dev nD) (B : Fin 128) (j : Fin 960) :
    V m c main_v4 (ix2 B j) = m (c, Proc.tc.devRef main_arg0) (ix3 B (0 : Fin 1) j) := by
  entry_read
  pointwise

theorem v5_at (c : Dev nD) (B : Fin 128) (j : Fin 480) :
    V m c main_v5 (ix2 B j) = m (c, Proc.tc.devRef main_arg1) (ix4 B (0 : Fin 1) (⟨j.val / 96, by omega⟩ : Fin 5) (⟨j.val % 96, by omega⟩ : Fin 96)) := by
  entry_read
  pointwise

theorem v7_at (c : Dev nD) (B : Fin 128) (j : Fin 480) :
    (V m c main_v7 (ix2 B j) : EReal) = m (c, Proc.tc.devRef main_arg2) (ix4 B (0 : Fin 1) (⟨j.val / 96, by omega⟩ : Fin 5) (⟨j.val % 96, by omega⟩ : Fin 96)) := by
  entry_read
  pointwise

theorem v9_at (c : Dev nD) (B : Fin 128) (j : Fin 128) :
    V m c main_v9 (ix2 B j) = m (c, Proc.tc.devRef main_arg6) (ix1 B) := by
  entry_read
  pointwise

theorem lenAt_eq (t : Fin grid0.N) (c : Dev nD) : lenAt m t = m (c, Proc.tc.devRef main_arg6) (ix1 (⟨t.val, lt_128 t.isLt⟩ : Fin 128)) := by
  obtain rfl : c = 0 := Subsingleton.elim _ _
  have e4 : tbl m 0 = m (((0 : Dev nD) : Thread nD τ).loc main_arg6) := V_main_arg6 m 0
  obtain ⟨e0, e1⟩ := coords_val t
  refine (congrArg (tbl m 0) (funext fun a => Fin.ext ?_)).trans (congrFun e4 _)
  match a with
  | ⟨0, _⟩ =>
    show k0_off1 (grid0.coords t) 0 + 1 * 0 = t.val
    rw [k0_off1_eq]
    show 8 * (grid0.coords t 0).val + (grid0.coords t 1).val + 1 * 0 = t.val
    omega

/-- The weights of head `h` for row `B`. -/
def weight (c : Dev nD) (B : Fin 128) (h : Fin 10) (q : Fin 5120) : EReal :=
  pAt (m (c, Proc.tc.devRef main_arg6) (ix1 B)) (fun q => m (c, Proc.tc.devRef main_arg3) (ix3 h B q))
    (sNew (fun j => m (c, Proc.tc.devRef main_arg0) (ix3 B (0 : Fin 1) (⟨96 * h.val + j, by omega⟩ : Fin 960)))
      fun j => m (c, Proc.tc.devRef main_arg1) (ix4 B (0 : Fin 1) (⟨h.val / 2, by omega⟩ : Fin 5) j)) q

/-- The weight of the new token of head `h` for row `B`. -/
def weightNew (c : Dev nD) (B : Fin 128) (h : Fin 10) : EReal :=
  pNew (m (c, Proc.tc.devRef main_arg6) (ix1 B)) (fun q => m (c, Proc.tc.devRef main_arg3) (ix3 h B q))
    (sNew (fun j => m (c, Proc.tc.devRef main_arg0) (ix3 B (0 : Fin 1) (⟨96 * h.val + j, by omega⟩ : Fin 960)))
      fun j => m (c, Proc.tc.devRef main_arg1) (ix4 B (0 : Fin 1) (⟨h.val / 2, by omega⟩ : Fin 5) j))

theorem key_at (c : Dev nD) (B : Fin 128) (h : Fin 10) (j : Fin 96) :
    V m c main_v5 (ix2 B (⟨96 * (h.val / 2) + j, by omega⟩ : Fin 480))
      = m (c, Proc.tc.devRef main_arg1) (ix4 B (0 : Fin 1) (⟨h.val / 2, by omega⟩ : Fin 5) j) := by
  rw [v5_at]
  have e1 : (⟨(96 * (h.val / 2) + j.val) / 96, by omega⟩ : Fin 5) = ⟨h.val / 2, by omega⟩ := Fin.ext (by show (96 * (h.val / 2) + j.val) / 96 = h.val / 2; omega)
  have e2 : (⟨(96 * (h.val / 2) + j.val) % 96, by omega⟩ : Fin 96) = j := Fin.ext (by show (96 * (h.val / 2) + j.val) % 96 = j.val; omega)
  exact congrArg _ (congrArg₂ (ix4 B (0 : Fin 1)) e1 e2)

theorem pRow_eq (hO : Ok m) (c : Dev nD) (t : Fin (cfgM m hO).N) (b : Fin 8) (h : Fin 10) (q : Fin 5120) :
    pRow (iblk m hO c 0 t) (iblk m hO c 3 t) (iblk m hO c 4 t) (iblk m hO c 6 t) b h q = weight m c (row t b) h q :=
  pAt_congr ((blk_6 m hO c t b 0).trans (v9_at m c _ _)) (funext fun q => (blk_0 m hO c t h b q).trans (congrFun (V_main_arg3 m c) _))
    (sNew_congr (funext fun j => (blk_3 m hO c t b _).trans (v4_at m c _ _)) (funext fun j => (blk_4 m hO c t b _).trans (key_at m c _ _ _)))

theorem nRow_eq (hO : Ok m) (c : Dev nD) (t : Fin (cfgM m hO).N) (b : Fin 8) (h : Fin 10) :
    nRow (iblk m hO c 0 t) (iblk m hO c 3 t) (iblk m hO c 4 t) (iblk m hO c 6 t) b h = weightNew m c (row t b) h :=
  pNew_congr ((blk_6 m hO c t b 0).trans (v9_at m c _ _)) (funext fun q => (blk_0 m hO c t h b q).trans (congrFun (V_main_arg3 m c) _))
    (sNew_congr (funext fun j => (blk_3 m hO c t b _).trans (v4_at m c _ _)) (funext fun j => (blk_4 m hO c t b _).trans (key_at m c _ _ _)))

/-- What the scratch arrays hold at every point: the weights and scales of the eight rows the point belongs to. -/
def Stored (hO : Ok m) (hH : Hyps m hO) (c : Dev nD) (t : Fin (cfgM m hO).N) : Prop :=
  (∀ (k : Fin 5) (b : Fin 8) (g : Fin 2) (q : Fin 5120), (outsAt0 m hO hH c t.val t.isLt).2.1 (ix4 b (⟨k.val, by omega⟩ : Fin 8) g q)
      = weight m c (row t b) ⟨2 * k.val + g.val, by omega⟩ q)
  ∧ (∀ (r : Fin 15) (b : Fin 8) (g : Fin 2) (q : Fin 5120), (outsAt0 m hO hH c t.val t.isLt).2.2.1 (ix4 r b g q)
      = (m (c, Proc.tc.devRef main_arg5) (ix4 (row t b) q (⟨r.val / 3, by omega⟩ : Fin 5) (⟨r.val % 3, by omega⟩ : Fin 3)) : EReal))
  ∧ ∀ (h : Fin 10) (b : Fin 8), (outsAt0 m hO hH c t.val t.isLt).2.2.2 (ix3 b (⟨h.val, by omega⟩ : Fin 16) (0 : Fin 128)) = weightNew m c (row t b) h

theorem stored_fresh (hO : Ok m) (hH : Hyps m hO) (c : Dev nD) (t : Fin (cfgM m hO).N) (h1 : t.val % 8 = 0) : Stored m hO hH c t := by
  by_cases h0 : t.val % 128 = 0
  · exact ⟨fun k b g q => (weights_A m hO hH c t h0 h1 k b g q).trans (pRow_eq m hO c t b _ q),
      fun r b g q => (scales_A m hO hH c t h0 h1 r b g q).trans ((blk_1 m hO c t r b q).trans (v3_at m c r _ q)),
      fun h b => (news_A m hO hH c t h0 h1 h b).trans (nRow_eq m hO c t b h)⟩
  · exact ⟨fun k b g q => (weights_C m hO hH c t h0 h1 k b g q).trans (pRow_eq m hO c t b _ q),
      fun r b g q => (scales_C m hO hH c t h0 h1 r b g q).trans ((blk_1 m hO c t r b q).trans (v3_at m c r _ q)),
      fun h b => (news_C m hO hH c t h0 h1 h b).trans (nRow_eq m hO c t b h)⟩

theorem stored (hO : Ok m) (hH : Hyps m hO) (c : Dev nD) : ∀ (n : ℕ) (hn : n < (cfgM m hO).N), Stored m hO hH c ⟨n, hn⟩ := by
  intro n
  induction n with
  | zero => exact fun hn => stored_fresh m hO hH c ⟨0, hn⟩ rfl
  | succ n ih =>
    intro hn
    by_cases h1 : (n + 1) % 8 = 0
    · exact stored_fresh m hO hH c ⟨n + 1, hn⟩ h1
    · have h0 : ¬(n + 1) % 128 = 0 := by omega
      obtain ⟨i1, i2, i3⟩ := ih (Nat.lt_of_succ_lt hn)
      have er : ∀ b, row ⟨n + 1, hn⟩ b = row ⟨n, Nat.lt_of_succ_lt hn⟩ b := fun b => Fin.ext (by
        show 8 * ((n + 1) / 8) + b.val = 8 * (n / 8) + b.val
        omega)
      refine ⟨fun k b g q => ?_, fun r b g q => ?_, fun h b => ?_⟩
      · rw [er]
        exact (congrFun (weights_B m hO hH c ⟨n + 1, hn⟩ h0 h1) _).trans (i1 k b g q)
      · rw [er]
        exact (congrFun (scales_B m hO hH c ⟨n + 1, hn⟩ h0 h1) _).trans (i2 r b g q)
      · rw [er]
        exact (congrFun (news_B m hO hH c ⟨n + 1, hn⟩ h0 h1) _).trans (i3 h b)

end Cert.ValuesIdeal.Own
end
-- ==== Proof.ValuesFinal.lean ====
module
public import proofs.«01_k».proof.Proof.ValuesRows
@[expose] public section
set_option maxRecDepth 16384
noncomputable section
namespace Cert.ValuesIdeal.Own
open Cert.ValuesIdeal Cert.ValuesIdeal.Gen
open Idealize.ShloMosaic Idealize.ShloMosaic.TcCoe Idealize.ShloMosaic.Pipeline
theorem minus_inf : Ideal.ofBits FTy.f32 4286578688#32 = ⊥ := by simp [Ideal.ofBits, Ideal.ieee]

/-- A position past the cache length has weight zero. -/
theorem pAt_past {v : BitVec 32} {s : Fin 5120 → EReal} {n : EReal} {q : Fin 5120} (h : v.toInt ≤ q.val) : pAt v s n q = 0 := by
  have hq : (BitVec.ofNat 32 q.val).toInt = q.val := by
    have := q.isLt
    have e : (BitVec.ofNat 32 q.val).toNat = q.val := by rw [BitVec.toNat_ofNat]; omega
    rw [BitVec.toInt_eq_toNat_of_lt (by omega), e]
  have e : IntOp.cmpi CmpIPredicate.slt (BitVec.ofNat 32 q.val) v = 0#1 := by
    have : ¬ (BitVec.ofNat 32 q.val).toInt < v.toInt := by omega
    show BitVec.ofBool (decide ((BitVec.ofNat 32 q.val).toInt < v.toInt)) = 0#1
    rw [decide_eq_false this]; rfl
  unfold pAt sAt
  rw [e]
  show Ideal.exp (Ideal.ofBits FTy.f32 4286578688#32 - top v s n) * _ = 0
  rw [minus_inf, EReal.bot_sub, Ideal.exp_bot, zero_mul]

/-- The blocks that are visited hold every position that counts. -/
theorem cacheSum_eq {n : ℕ} {C : Vec Ideal S1x480x5120 .i8} {S : Vec Ideal S15x8x2x5120 .bf16} {P : Vec Ideal S8x8x2x5120 .bf16} {b : Fin 8} {a : Fin 480} {h : Fin 16}
    (f : Fin 5120 → EReal) (ht : ∀ q, term C S P b a h q = f q) (hz : ∀ q : Fin 5120, 1024 * n ≤ q.val → f q = 0) :
    cacheSum n C S P b a h = ∑ q, f q := by
  rw [Fin.sum_univ_tiles 5 1024 rfl f]
  refine Finset.sum_congr rfl fun k _ => ?_
  split
  · exact Finset.sum_congr rfl fun l _ => (ht _).trans (congrArg f (Fin.ext (by show 1024 * k.val + l.val = k.val * 1024 + l.val; omega)))
  · exact (Finset.sum_eq_zero fun l _ => hz _ (by show 1024 * n ≤ k.val * 1024 + l.val; omega)).symm

variable (m : (ℓ : Loc nD τ sig) → Buf (Elt Ideal) ℓ)

/-- One product of the sum over the cache: a code, its scale and the weight of its position. -/
def product (c : Dev nD) (B : Fin 128) (h : Fin 10) (a : Fin 480) (q : Fin 5120) : EReal :=
  FloatOps.sitofp (F := Ideal) .bf16 (m (c, Proc.tc.devRef main_arg4) (ix4 B q (⟨a.val / 96, by omega⟩ : Fin 5) (⟨a.val % 96, by omega⟩ : Fin 96)) : BitVec 8)
    * m (c, Proc.tc.devRef main_arg5) (ix4 B q (⟨a.val / 96, by omega⟩ : Fin 5) (⟨a.val % 96 / 32, by omega⟩ : Fin 3)) * weight m c B h q

/-- What the program computes for head `h`, row `B` and column `a`. -/
def result (c : Dev nD) (B : Fin 128) (h : Fin 10) (a : Fin 480) : EReal :=
  tail (∑ q, product m c B h a q) (weightNew m c B h)
    (m (c, Proc.tc.devRef main_arg2) (ix4 B (0 : Fin 1) (⟨a.val / 96, by omega⟩ : Fin 5) (⟨a.val % 96, by omega⟩ : Fin 96)))

theorem out_any (hO : Ok m) (hH : Hyps m hO) (c : Dev nD) (t : Fin (cfgM m hO).N) (hv : (lenAt m t).toInt ≤ 5120) (h : Fin 16) (a : Fin 480) :
    (outsAt0 m hO hH c t.val t.isLt).1 (ix3 (0 : Fin 1) h a)
      = tail (cacheSum (k0_t1_loop (lenAt m t)).trips (iblk m hO c 2 t) (outsAt0 m hO hH c t.val t.isLt).2.2.1 (outsAt0 m hO hH c t.val t.isLt).2.1
          ⟨(grid0.coords t 1).val, (grid0.coords t 1).isLt⟩ a h)
        ((outsAt0 m hO hH c t.val t.isLt).2.2.2 (ix3 (⟨(grid0.coords t 1).val, (grid0.coords t 1).isLt⟩ : Fin 8) h (0 : Fin 128)))
        (iblk m hO c 5 t (ix2 (⟨(grid0.coords t 1).val, (grid0.coords t 1).isLt⟩ : Fin 8) a)) := by
  by_cases h0 : t.val % 128 = 0
  · exact out_A m hO hH c t hv h0 (by omega) h a
  · by_cases h1 : t.val % 8 = 0
    · exact out_C m hO hH c t hv h0 h1 h a
    · exact out_B m hO hH c t hv h0 h1 h a

theorem tail_congr {x x' n n' v v' : EReal} (hx : x = x') (hn : n = n') (hv : v = v') : tail x n v = tail x' n' v' := by rw [hx, hn, hv]

theorem out_at (hO : Ok m) (hH : Hyps m hO) (c : Dev nD) (t : Fin (cfgM m hO).N) (hv : (lenAt m t).toInt ≤ 5120) (h : Fin 10) (a : Fin 480) :
    (outsAt0 m hO hH c t.val t.isLt).1 (ix3 (0 : Fin 1) (⟨h.val, by omega⟩ : Fin 16) a) = result m c ⟨t.val, lt_128 t.isLt⟩ h a := by
  obtain ⟨s1, s2, s3⟩ := stored m hO hH c t.val t.isLt
  obtain ⟨e0, e1⟩ := coords_val t
  have er : row t ⟨(grid0.coords t 1).val, (grid0.coords t 1).isLt⟩ = ⟨t.val, lt_128 t.isLt⟩ := Fin.ext (by
    show 8 * (t.val / 8) + (grid0.coords t 1).val = t.val
    omega)
  refine (out_any m hO hH c t hv _ a).trans (tail_congr (cacheSum_eq _ (fun q => ?_) fun q hq => ?_) ?_ ?_)
  · unfold term product
    refine Ideal.mul_congr (Ideal.mul_congr ?_ ?_) ?_
    · exact congrArg (FloatOps.sitofp (F := Ideal) (w := 8) .bf16) ((blk_2 m hO c t 0 a q).trans (v1_at m c _ a q))
    · refine (s2 _ _ _ q).trans ?_
      rw [er]
      exact congrArg _ (congrArg₂ (ix4 _ q) (Fin.ext (by show a.val / 32 / 3 = a.val / 96; omega)) (Fin.ext (by show a.val / 32 % 3 = a.val % 96 / 32; omega)))
    · refine (s1 ⟨h.val / 2, by omega⟩ _ ⟨h.val % 2, by omega⟩ q).trans ?_
      rw [er]
      exact congrArg (fun h => weight m c _ h q) (Fin.ext (by show 2 * (h.val / 2) + h.val % 2 = h.val; omega))
  · have hn := t1_trips (lenAt m t) hv
    have hw : weight m c ⟨t.val, lt_128 t.isLt⟩ h q = 0 := pAt_past (by
      rw [← lenAt_eq m t c]
      omega)
    unfold product
    rw [hw, mul_zero]
  · exact (s3 h _).trans (by rw [er])
  · refine (blk_5 m hO c t _ a).trans ((v7_at m c _ a).trans ?_)
    rw [er]

theorem index_7 (t : Fin grid0.N) : cc0_transform_7 (grid0.coords t) 0 = t.val ∧ cc0_transform_7 (grid0.coords t) 1 = 0 ∧ cc0_transform_7 (grid0.coords t) 2 = 0 :=
  (by decide +kernel : ∀ t : Fin grid0.N, cc0_transform_7 (grid0.coords t) 0 = t.val ∧ cc0_transform_7 (grid0.coords t) 1 = 0 ∧ cc0_transform_7 (grid0.coords t) 2 = 0) t

/-- Every row of the result is written, each at its own point. -/
theorem covers (hO : Ok m) : ((cfgM m hO).win 7).Covers := by
  have n0 : ((cfgM m hO).win 7).nblk (0 : Fin 3) = (128 + 1 - 1) / 1 := rfl
  have n1 : ((cfgM m hO).win 7).nblk (1 : Fin 3) = (16 + 16 - 1) / 16 := rfl
  have n2 : ((cfgM m hO).win 7).nblk (2 : Fin 3) = (480 + 480 - 1) / 480 := rfl
  refine ⟨fun a => ?_, fun β => ?_⟩
  · match a with
    | ⟨0, _⟩ => show 0 < 1; omega
    | ⟨1, _⟩ => show 0 < 16; omega
    | ⟨2, _⟩ => show 0 < 480; omega
  · have b0 := Nat.lt_of_lt_of_eq (β (0 : Fin 3)).isLt n0
    have b1 := Nat.lt_of_lt_of_eq (β (1 : Fin 3)).isLt n1
    have b2 := Nat.lt_of_lt_of_eq (β (2 : Fin 3)).isLt n2
    have hN : (β (0 : Fin 3)).val < grid0.N := b0
    obtain ⟨e0, e1, e2⟩ := index_7 ⟨(β (0 : Fin 3)).val, hN⟩
    refine ⟨⟨(β (0 : Fin 3)).val, hN⟩, flush0_7 _ _, fun a => ⟨?_, Or.inl rfl⟩⟩
    match a with
    | ⟨0, _⟩ => exact e0
    | ⟨1, _⟩ => exact e1.trans (show 0 = (β (1 : Fin 3)).val by omega)
    | ⟨2, _⟩ => exact e2.trans (show 0 = (β (2 : Fin 3)).val by omega)

theorem outs_congr (hO : Ok m) (hH : Hyps m hO) (c : Dev nD) {n n' : ℕ} {hn : n < (cfgM m hO).N} {hn' : n' < (cfgM m hO).N} {y y' : S1x16x480.Idx}
    (e : n = n') (ey : y = y') : (outsAt0 m hO hH c n hn).1 y = (outsAt0 m hO hH c n' hn').1 y' := by
  subst e ey
  rfl

/-- The array the program leaves, wherever its head is one of the ten. -/
theorem final (hO : Ok m) (hH : Hyps m hO) (c : Dev nD) (hv : ∀ t, (lenAt m t).toInt ≤ 5120) (B : Fin 128) (h : Fin 10) (a : Fin 480) :
    (dats m hO hH 0 c).arrAt 7 (cfgM m hO).N (ix3 B (⟨h.val, by omega⟩ : Fin 16) a) = result m c B h a := by
  have e := (dats m hO hH 0 c).arrAt_eq_of_covers 7
    (fun i => (outsAt0 m hO hH c (i (0 : Fin 3)).val (i (0 : Fin 3)).isLt).1 (ix3 (0 : Fin 1) (⟨(i (1 : Fin 3)).val, (i (1 : Fin 3)).isLt⟩ : Fin 16) (⟨(i (2 : Fin 3)).val, (i (2 : Fin 3)).isLt⟩ : Fin 480))) (covers m hO) (fun t _ y => ?_)
  · exact (congrFun e _).trans (out_at m hO hH c ⟨B.val, B.isLt⟩ (hv _) h a)
  · blk_simp
    rw [after0_7]
    obtain ⟨e0, e1, e2⟩ := index_7 t
    have y0 : (y (0 : Fin 3)).val < 1 := (y (0 : Fin 3)).isLt
    refine outs_congr m hO hH c e0.symm (funext fun a => Fin.ext ?_)
    match a with
    | ⟨0, _⟩ => show (y (0 : Fin 3)).val = 0; omega
    | ⟨1, _⟩ => show (y (1 : Fin 3)).val = cc0_transform_7 (grid0.coords t) 1 * 16 + (y (1 : Fin 3)).val; omega
    | ⟨2, _⟩ => show (y (2 : Fin 3)).val = cc0_transform_7 (grid0.coords t) 2 * 480 + (y (2 : Fin 3)).val; omega

end Cert.ValuesIdeal.Own
end
-- ==== Proof.ValuesRun.lean ====
module
public import proofs.«01_k».proof.Proof.Claims
public import proofs.«01_k».proof.Proof.ValuesFinal
@[expose] public section
set_option maxRecDepth 16384
noncomputable section
open Idealize.ShloMosaic Idealize.ShloMosaic.TcCoe Idealize.SL.Sem
namespace Cert.ValuesIdeal.Own
open Cert.ValuesIdeal Cert.ValuesIdeal.Gen

/-- The program's run, read at its result: where a head is one of the ten the array holds `result`. -/
theorem run_value (m : (ℓ : Loc nD τ sig) → Buf (Elt Ideal) ℓ) (g : Dev nD → PrngReg) (hpre : Cert.Pre_ValuesIdeal m) :
    ∃ v : (c : Dev nD) → Buf (Elt Ideal) ((c.tc : Thread nD τ).loc main_v10),
      (∀ (c : Dev nD) (B : Fin 128) (h : Fin 10) (a : Fin 480), v c (ix3 B (⟨h.val, by omega⟩ : Fin 16) a) = result m c B h a)
      ∧ θ_run (defs (F := Ideal)) (onTc (τ := τ) (main (F := Ideal))) ⟨m, fun _ => 0, g⟩ (fun r => ∀ c : Dev nD,
        r.2.mem ((c.tc : Thread nD τ).loc main_v10) = v c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) := by
  have hO := ok_of_pre m hpre
  have hH := hyps_of_pre m hpre
  refine ⟨fun c => (dats m hO hH 0 c).arrAt 7 (cfgM m hO).N, fun c B h a => final m hO hH c (fun t => len_le m hpre _) B h a, ?_⟩
  exact (θ_run defs _ _).mono (fun r h c => ⟨Pipeline.FramePost.out_eq h.1 c 7, h.2 c⟩) (θ_run_and (run_main m g hO hH) (unchanged m g hO hH))
end Cert.ValuesIdeal.Own
end
-- ==== Proof.ValuesRef.lean ====
module
public import proofs.«01_k».proof.Proof.ValuesFinal
public import proofs.«01_k».proof.Proof.Gen.ValuesRefIdeal
@[expose] public section
set_option maxRecDepth 16384
noncomputable section
namespace Cert.ValuesRefIdeal.Own
open Cert.ValuesRefIdeal Cert.ValuesRefIdeal.Facts₀
open Idealize.ShloMosaic
open Cert.ValuesIdeal.Own (sAt sNew top den pAt pNew)

/-- The cached scores, minus infinity past the cache lengths. -/
def masked (s : FVec Ideal S10x128x5120 .f32) (len : IVec S128 32) : FVec Ideal S128x5120x5x2 .f32 :=
  select (broadcastInDim S128x5120x5x2 ![0, 1, 2, 3] bcast_S128x5120x1x1_S128x5120x5x2_0_1_2_3
      (broadcastInDim S128x5120x1x1 ![0, 1] bcast_S128x5120_S128x5120x1x1_0_1
        (cmpi .slt
          (broadcastInDim S128x5120 ![0, 1] bcast_S1x5120_S128x5120_0_1 (broadcastInDim S1x5120 ![1] bcast_S5120_S1x5120_1 (iotaInDim S5120 32 0)))
          (broadcastInDim S128x5120 ![0, 1] bcast_S128x1_S128x5120_0_1 (broadcastInDim S128x1 ![0] bcast_S128_S128x1_0 len)))))
    (fun i => shapeCast S128x5120x5x2 (transpose S128x5120x10 [1, 2, 0] s transposes_S10x128x5120_S128x5120x10_1_2_0) shapeCasts_S128x5120x10_S128x5120x5x2 i)
    (broadcastInDim S128x5120x5x2 ![] bcast_S_S128x5120x5x2 (constant S_ .f32 0xFF800000#32))

/-- The new token's scores. -/
def fresh (x : FVec Ideal S128x1x960 .bf16) (k : FVec Ideal S128x1x5x96 .bf16) : FVec Ideal S128x5x2 .f32 :=
  mulf (broadcastInDim S128x5x2 ![] bcast_S_S128x5x2 (constant S_ .f32 0x3DD105EC#32))
    (Host.dotGeneral dot_S128x5x2x96_S128x5x96_S128x5x2_3_2_2_n_01_01 none
      (fun i => shapeCast S128x5x2x96 x shapeCasts_S128x1x960_S128x5x2x96 i) (fun i => shapeCast S128x5x96 k shapeCasts_S128x1x5x96_S128x5x96 i))

/-- The largest score of each head. -/
def peak (w : FVec Ideal S128x5120x5x2 .f32) (n : FVec Ideal S128x5x2 .f32) : FVec Ideal S128x5x2 .f32 :=
  maximumf (Host.reduce FloatOps.maximumf w (constant S_ .f32 0xFF800000#32) reducesTo_S128x5120x5x2_S128x5x2_d1 h_S_) n

/-- A value per head repeated along the positions. -/
def along (p : FVec Ideal S128x5x2 .f32) : FVec Ideal S128x5120x5x2 .f32 :=
  broadcastInDim S128x5120x5x2 ![0, 1, 2, 3] bcast_S128x1x5x2_S128x5120x5x2_0_1_2_3 (broadcastInDim S128x1x5x2 ![0, 2, 3] bcast_S128x5x2_S128x1x5x2_0_2_3 p)

/-- The exponentials of the cached scores. -/
def expo (w : FVec Ideal S128x5120x5x2 .f32) (n : FVec Ideal S128x5x2 .f32) : FVec Ideal S128x5120x5x2 .f32 :=
  Host.exp (subf w (along (peak w n)))

/-- The exponential of the new token's score. -/
def expNew (w : FVec Ideal S128x5120x5x2 .f32) (n : FVec Ideal S128x5x2 .f32) : FVec Ideal S128x5x2 .f32 :=
  Host.exp (subf n (peak w n))

/-- The softmax's denominators. -/
def denom (w : FVec Ideal S128x5120x5x2 .f32) (n : FVec Ideal S128x5x2 .f32) : FVec Ideal S128x5x2 .f32 :=
  addf (Host.reduceAdd (expo w n) (constant S_ .f32 0x00000000#32) reducesTo_S128x5120x5x2_S128x5x2_d1 h_S_) (expNew w n)

/-- The codes times their scales. -/
def dequant (codes : IVec S128x5120x5x96 8) (sc : FVec Ideal S128x5120x5x3 .f32) : FVec Ideal S128x5120x5x96 .bf16 :=
  fun i => shapeCast S128x5120x5x96
    (mulf (fun i => shapeCast S128x5120x5x3x32 (truncf .bf16 (sitofp .f32 (extsi 32 codes natLt_8_32)) bitsLt_bf16_f32) shapeCasts_S128x5120x5x96_S128x5120x5x3x32 i)
      (broadcastInDim S128x5120x5x3x32 ![0, 1, 2, 3, 4] bcast_S128x5120x5x3x1_S128x5120x5x3x32_0_1_2_3_4
        (broadcastInDim S128x5120x5x3x1 ![0, 1, 2, 3] bcast_S128x5120x5x3_S128x5120x5x3x1_0_1_2_3 (truncf .bf16 sc bitsLt_bf16_f32))))
    shapeCasts_S128x5120x5x3x32_S128x5120x5x96 i

/-- The attention output of the ten heads. -/
def heads (w : FVec Ideal S128x5120x5x2 .f32) (n : FVec Ideal S128x5x2 .f32) (vw : FVec Ideal S128x5120x5x96 .bf16) (v : FVec Ideal S128x1x5x96 .bf16) :
    FVec Ideal S128x5x2x96 .f32 :=
  addf
    (Host.dotGeneral dot_S128x5120x5x2_S128x5120x5x96_S128x5x2x96_1_1_3_3_02_02 none
      (truncf .bf16 (Host.divf (expo w n) (along (denom w n))) bitsLt_bf16_f32) vw)
    (mulf
      (broadcastInDim S128x5x2x96 ![0, 1, 2, 3] bcast_S128x5x2x1_S128x5x2x96_0_1_2_3
        (broadcastInDim S128x5x2x1 ![0, 1, 2] bcast_S128x5x2_S128x5x2x1_0_1_2
          (extf .f32 (truncf .bf16 (Host.divf (expNew w n) (denom w n)) bitsLt_bf16_f32) bitsLt_bf16_f32)))
      (broadcastInDim S128x5x2x96 ![0, 1, 2, 3] bcast_S128x5x1x96_S128x5x2x96_0_1_2_3
        (broadcastInDim S128x5x1x96 ![0, 1, 3] bcast_S128x5x96_S128x5x1x96_0_1_3
          (extf .f32 (fun i => shapeCast S128x5x96 v shapeCasts_S128x1x5x96_S128x5x96 i : FVec Ideal S128x5x96 .bf16) bitsLt_bf16_f32))))

/-- The ten heads and six rows of zeros, repeated over the key-value heads. -/
def spread (o : FVec Ideal S128x5x2x96 .f32) : FVec Ideal S128x16x480 .f32 :=
  fun i => shapeCast S128x16x480
    (broadcastInDim S128x16x5x96 ![0, 1, 2, 3] bcast_S128x16x1x96_S128x16x5x96_0_1_2_3
      (broadcastInDim S128x16x1x96 ![0, 1, 3] bcast_S128x16x96_S128x16x1x96_0_1_3
        (concatenate S128x16x96 1
          [⟨S128x10x96, fun i => shapeCast S128x10x96 o shapeCasts_S128x5x2x96_S128x10x96 i⟩,
            ⟨S128x6x96, broadcastInDim S128x6x96 ![] bcast_S_S128x6x96 (constant S_ .f32 0x00000000#32)⟩]
          concatenates_S128x10x96_S128x6x96_S128x16x96_d1)))
    shapeCasts_S128x16x5x96_S128x16x480 i

theorem masked_at (s : FVec Ideal S10x128x5120 .f32) (len : IVec S128 32) (B : Fin 128) (q : Fin 5120) (k : Fin 5) (g : Fin 2) :
    masked s len (ix4 B q k g) = sAt (len (ix1 B)) (fun q => s (ix3 (⟨k.val * 2 + g.val, by omega⟩ : Fin 10) B q)) q := by
  unfold sAt
  pointwise [masked]

theorem fresh_at (x : FVec Ideal S128x1x960 .bf16) (kn : FVec Ideal S128x1x5x96 .bf16) (B : Fin 128) (k : Fin 5) (g : Fin 2) :
    fresh x kn (ix3 B k g) = sNew (fun j => x (ix3 B (0 : Fin 1) (⟨k.val * 192 + g.val * 96 + j.val, by omega⟩ : Fin 960))) (fun j => kn (ix4 B (0 : Fin 1) k j)) := by
  unfold sNew
  pointwise [fresh]

/-- The largest entry along the second of four axes. -/
theorem reduce_at {n0 n1 n2 n3 : ℕ} (w : FVec Ideal ⟨4, ![n0, n1, n2, n3]⟩ .f32) (z : FVec Ideal S_ .f32) (c : EReal)
    (h : (⟨4, ![n0, n1, n2, n3]⟩ : Shape).ReducesTo [1] ⟨3, ![n0, n2, n3]⟩) (hu : 0 < S_.numel)
    (hz : z (Shape.Idx.first hu) = c) (B : Fin n0) (k : Fin n2) (g : Fin n3) :
    Host.reduce FloatOps.maximumf w z h hu (ix3 B k g) = Finset.univ.fold max c fun q => w (ix4 B q k g) := by
  subst hz
  pointwise

theorem max_at {s : Shape} (r n : FVec Ideal s .f32) (i : s.Idx) : maximumf r n i = max (r i) (n i) := rfl

variable (w : FVec Ideal S128x5120x5x2 .f32) (n : FVec Ideal S128x5x2 .f32) {v : BitVec 32} {s : Fin 5120 → EReal} {z : EReal} (B : Fin 128) (k : Fin 5) (g : Fin 2)
  (hw : ∀ q, w (ix4 B q k g) = sAt v s q) (hn : n (ix3 B k g) = z)

include hw hn

theorem peak_at : peak w n (ix3 B k g) = top v s z := by
  have e := reduce_at w (constant S_ .f32 0xFF800000#32) (Ideal.ofBits .f32 0xFF800000#32) reducesTo_S128x5120x5x2_S128x5x2_d1 h_S_ rfl B k g
  have f : (fun q => w (ix4 B q k g)) = fun q => sAt v s q := funext hw
  rw [f] at e
  unfold peak top
  exact (max_at _ n _).trans (congrArg₂ max e hn)

theorem expo_at (q : Fin 5120) : expo w n (ix4 B q k g) = Ideal.exp (sAt v s q - top v s z) := by
  pointwise [expo, along]
  rw [hw, peak_at w n B k g hw hn]

theorem expNew_at : expNew w n (ix3 B k g) = Ideal.exp (z - top v s z) := by
  pointwise [expNew]
  rw [hn, peak_at w n B k g hw hn]

theorem denom_at : denom w n (ix3 B k g) = den v s z := by
  unfold den
  pointwise [denom]
  simp only [expo_at w n B k g hw hn, expNew_at w n B k g hw hn]

theorem heads_at (hd : den v s z ≠ 0) (vw : FVec Ideal S128x5120x5x96 .bf16) (vn : FVec Ideal S128x1x5x96 .bf16) (j : Fin 96) :
    heads w n vw vn (ix4 B k g j) = ∑ q, vw (ix4 B q k j) * pAt v s z q + pNew v s z * vn (ix4 B (0 : Fin 1) k j) := by
  unfold pAt pNew
  pointwise [heads, along]
  simp only [expo_at w n B k g hw hn, expNew_at w n B k g hw hn, denom_at w n B k g hw hn, Ideal.mul_one_div hd]
  exact congrArg (· + _) (Finset.sum_congr rfl fun q _ => mul_comm _ _)

omit hw hn

theorem dequant_at (codes : IVec S128x5120x5x96 8) (sc : FVec Ideal S128x5120x5x3 .f32) (B : Fin 128) (q : Fin 5120) (k : Fin 5) (j : Fin 96) :
    dequant codes sc (ix4 B q k j) = FloatOps.sitofp (F := Ideal) .bf16 (codes (ix4 B q k j)) * sc (ix4 B q k (⟨j.val / 32, by omega⟩ : Fin 3)) := by
  pointwise [dequant]
  have ej : (⟨j.val / 32 * 32 + j.val % 32, by omega⟩ : Fin 96) = j := Fin.ext (by show j.val / 32 * 32 + j.val % 32 = j.val; omega)
  rw [ej]
  refine congrArg (· * _) ?_
  show (((BitVec.signExtend 32 (codes (ix4 B q k j))).toInt : ℝ) : EReal) = (((codes (ix4 B q k j) : BitVec 8).toInt : ℝ) : EReal)
  rw [BitVec.toInt_signExtend_of_le (by omega)]

theorem spread_at (o : FVec Ideal S128x5x2x96 .f32) (B : Fin 128) (h : Fin 10) (a : Fin 480) :
    spread o (ix3 B (⟨h.val, by omega⟩ : Fin 16) a) = o (ix4 B (⟨h.val / 2, by omega⟩ : Fin 5) (⟨h.val % 2, by omega⟩ : Fin 2) (⟨a.val % 96, by omega⟩ : Fin 96)) := by
  pointwise [spread]

end Cert.ValuesRefIdeal.Own
end
-- ==== Proof.ValuesFinite.lean ====
/- What the precondition `finite` says of the arrays (hand-written, untrusted): the lengths fit, the query and the new key
   are real numbers and no score is plus infinity; so the denominator of the softmax is not zero. -/
module

public import proofs.«01_k».proof.Pre_finite
public import proofs.«01_k».proof.Proof.ValuesFinal
public import Idealize.ShloMosaic.Lib.Affine

@[expose] public section

set_option maxRecDepth 16384

noncomputable section

open Idealize.ShloMosaic Idealize.ShloMosaic.TcCoe

namespace Cert.Pre_finite

/-- The shape facts of the precondition's program. -/
instance Own.facts : Facts where
  bcast_S_S128 := by decide
  reducesTo_S128_S_d0 := by decide
  h_S_ := by decide
  bcast_S_S128x1x960 := by decide
  reducesTo_S128x1x960_S_d0_1_2 := by decide
  bcast_S_S128x1x5x96 := by decide
  reducesTo_S128x1x5x96_S_d0_1_2_3 := by decide
  bcast_S_S10x128x5120 := by decide
  reducesTo_S10x128x5120_S_d0_1_2 := by decide

end Cert.Pre_finite

namespace Cert.ValuesIdeal.Own

open Cert.ValuesIdeal

theorem lt_of_olt {φ : FTy} {x y : Ideal φ} (h : FloatOps.cmpf (F := Ideal) .olt x y = 1#1) : (show EReal from x) < y := by
  by_contra hn
  have e : BitVec.ofBool (decide ((show EReal from x) < y)) = 1#1 := h
  rw [decide_eq_false hn] at e
  exact absurd e (by decide)

theorem lt_of_ogt {φ : FTy} {x y : Ideal φ} (h : FloatOps.cmpf (F := Ideal) .ogt x y = 1#1) : (show EReal from y) < x := by
  by_contra hn
  have e : BitVec.ofBool (decide ((show EReal from y) < x)) = 1#1 := h
  rw [decide_eq_false hn] at e
  exact absurd e (by decide)

theorem top_bf16 : Ideal.ofBits FTy.bf16 0x7F80#16 = ⊤ := by simp [Ideal.ofBits, Ideal.ieee]
theorem bot_bf16 : Ideal.ofBits FTy.bf16 0xFF80#16 = ⊥ := by simp [Ideal.ofBits, Ideal.ieee]
theorem top_f32 : Ideal.ofBits FTy.f32 0x7F800000#32 = ⊤ := by simp [Ideal.ofBits, Ideal.ieee]

section Read

variable {x : FVec Ideal S128x1x960 .bf16} {k v : FVec Ideal S128x1x5x96 .bf16} {s : FVec Ideal S10x128x5120 .f32}
  {codes : IVec S128x5120x5x96 8} {sc : FVec Ideal S128x5120x5x3 .f32} {len : IVec S128 32}

/-- The precondition's conjuncts, at every element. -/
theorem read_finite (h : Pre_finite.fn (F := Ideal) x k v s codes sc len = fun _ => 1#1) :
    (∀ i, (len i).toInt ≤ 5120) ∧ (∀ i, ∃ r : ℝ, x i = (r : EReal)) ∧ (∀ i, ∃ r : ℝ, k i = (r : EReal))
      ∧ ∀ i, (show EReal from s i) < ⊤ := by
  have e := congrFun h (Shape.Idx.first (show 0 < Pre_finite.S_.numel from by decide))
  obtain ⟨e20, e21⟩ := IntOp.andi_eq_one.1 e
  obtain ⟨e2, e19⟩ := IntOp.andi_eq_one.1 e20
  obtain ⟨e9, e16⟩ := IntOp.andi_eq_one.1 e21
  obtain ⟨e5, e8⟩ := IntOp.andi_eq_one.1 e9
  obtain ⟨e12, e15⟩ := IntOp.andi_eq_one.1 e16
  have real {y : EReal} (h0 : y < ⊤) (h1 : ⊥ < y) : ∃ r : ℝ, y = (r : EReal) :=
    ⟨y.toReal, (EReal.coe_toReal h0.ne h1.ne').symm⟩
  refine ⟨fun i => ?_, fun i => ?_, fun i => ?_, fun i => ?_⟩
  · exact IntOp.cmpi_sle.1 (Host.reduce_andi_all _ _ _ _ _ e2 i)
  · exact real ((lt_of_olt (Host.reduce_andi_all _ _ _ _ _ e5 i)).trans_eq top_bf16)
      (bot_bf16.symm.trans_lt (lt_of_ogt (Host.reduce_andi_all _ _ _ _ _ e8 i)))
  · exact real ((lt_of_olt (Host.reduce_andi_all _ _ _ _ _ e12 i)).trans_eq top_bf16)
      (bot_bf16.symm.trans_lt (lt_of_ogt (Host.reduce_andi_all _ _ _ _ _ e15 i)))
  · exact (lt_of_olt (Host.reduce_andi_all _ _ _ _ _ e19 i)).trans_eq top_f32

/-- `finite` holds only where `fits` does. -/
theorem fits_of_read (h : ∀ i, (len i).toInt ≤ 5120) :
    Pre_fits.fn (F := Ideal) x k v s codes sc len = fun _ => 1#1 :=
  funext fun j => Host.reduce_andi_one _ _ _ _ j rfl fun i => IntOp.cmpi_sle.2 (h i)

end Read

/-- A finite sum of real numbers is a real number. -/
theorem real_sum {n : ℕ} (f : Fin n → EReal) (h : ∀ i, ∃ r : ℝ, f i = (r : EReal)) : ∃ r : ℝ, ∑ i, f i = (r : EReal) := by
  refine Finset.sum_induction f (fun y => ∃ r : ℝ, y = (r : EReal)) ?_ ⟨0, EReal.coe_zero.symm⟩ fun i _ => h i
  rintro _ _ ⟨a, rfl⟩ ⟨b, rfl⟩
  exact ⟨a + b, (EReal.coe_add a b).symm⟩

/-- The scale of the new score is a real number. -/
theorem scale_real : ∃ r : ℝ, Ideal.ofBits FTy.f32 1037108716#32 = (r : EReal) := by
  show ∃ r : ℝ, Ideal.ieee 8 23 1037108716#32 = (r : EReal)
  unfold Ideal.ieee
  dsimp only
  rw [if_neg (by decide), if_neg (by decide)]
  exact ⟨_, rfl⟩

theorem real_mul {y z : EReal} (hy : ∃ r : ℝ, y = (r : EReal)) (hz : ∃ r : ℝ, z = (r : EReal)) : ∃ r : ℝ, y * z = (r : EReal) := by
  obtain ⟨a, rfl⟩ := hy
  obtain ⟨b, rfl⟩ := hz
  exact ⟨a * b, (EReal.coe_mul a b).symm⟩

theorem sNew_real {x k : Fin 96 → EReal} (hx : ∀ j, ∃ r : ℝ, x j = (r : EReal)) (hk : ∀ j, ∃ r : ℝ, k j = (r : EReal)) :
    ∃ r : ℝ, sNew x k = (r : EReal) :=
  real_mul scale_real (real_sum _ fun j => real_mul (hx j) (hk j))

theorem exp_nonneg (y : EReal) : 0 ≤ Ideal.exp y := by
  induction y with
  | bot => exact le_refl _
  | top => exact le_top
  | coe r => exact EReal.coe_nonneg.2 (Real.exp_pos r).le

/-- With a real new score and no cached score of plus infinity, the softmax's denominator is positive. -/
theorem den_ne_zero {v : BitVec 32} {s : Fin 5120 → EReal} {z : EReal} (hs : ∀ q, s q < ⊤) (hz : ∃ r : ℝ, z = (r : EReal)) :
    den v s z ≠ 0 := by
  obtain ⟨r, rfl⟩ := hz
  have hlt : top v s (r : EReal) < ⊤ := by
    refine max_lt ((Finset.fold_max_lt _).2 ⟨by rw [minus_inf]; exact bot_lt_top, fun q _ => ?_⟩) (EReal.coe_lt_top r)
    unfold sAt Scalar.select
    split
    · exact hs q
    · rw [minus_inf]; exact bot_lt_top
  have hge : (r : EReal) ≤ top v s r := le_max_right _ _
  obtain ⟨t, ht⟩ : ∃ t : ℝ, top v s (r : EReal) = (t : EReal) :=
    ⟨_, (EReal.coe_toReal hlt.ne (lt_of_lt_of_le (EReal.bot_lt_coe r) hge).ne').symm⟩
  have hp : 0 < Ideal.exp ((r : EReal) - top v s r) := by
    rw [ht, ← EReal.coe_sub, Ideal.exp_coe]
    exact EReal.coe_pos.2 (Real.exp_pos _)
  refine ne_of_gt (lt_of_lt_of_le hp ?_)
  unfold den
  exact le_add_of_nonneg_left (Finset.sum_nonneg fun q _ => exp_nonneg _)

end Cert.ValuesIdeal.Own

end
-- ==== Proof.ValuesAlgebraic.lean ====
/- The values kernel and the reference agree where a head meets its own key-value head's columns (hand-written,
   untrusted). -/
module

public import proofs.«01_k».proof.Proof.ValuesRun
public import proofs.«01_k».proof.Proof.ValuesRef
public import proofs.«01_k».proof.Proof.ValuesFinite

@[expose] public section

set_option maxRecDepth 100000

noncomputable section

open Idealize.ShloMosaic Idealize.SL.Sem

namespace Cert.ValuesIdeal.Own

open Cert.ValuesIdeal
open Cert.ValuesRefIdeal.Own (masked fresh dequant heads spread masked_at fresh_at dequant_at heads_at spread_at)

variable (m : (ℓ : Loc nD τ sig) → Buf (Elt Ideal) ℓ)

/-- The reference's array, from the arguments in the memory `m`. -/
def expected (c : Dev nD) : FVec Ideal S128x16x480 .f32 :=
  spread (heads (masked (m (c, Proc.tc.devRef main_arg3)) (m (c, Proc.tc.devRef main_arg6)))
    (fresh (m (c, Proc.tc.devRef main_arg0)) (m (c, Proc.tc.devRef main_arg1)))
    (dequant (m (c, Proc.tc.devRef main_arg4)) (m (c, Proc.tc.devRef main_arg5))) (m (c, Proc.tc.devRef main_arg2)))

theorem expected_at (hpre : Cert.Pre_ValuesIdeal_finite m) (c : Dev nD) (B : Fin 128) (h : Fin 10) (a : Fin 480) (e : h.val / 2 = a.val / 96) :
    expected m c (ix3 B (⟨h.val, by omega⟩ : Fin 16) a) = result m c B h a := by
  obtain ⟨-, hx, hk, hs⟩ := read_finite (hpre c)
  have ek : (⟨h.val / 2, by omega⟩ : Fin 5) = ⟨a.val / 96, by omega⟩ := Fin.ext e
  have eh : (⟨h.val / 2 * 2 + h.val % 2, by omega⟩ : Fin 10) = h := Fin.ext (by show h.val / 2 * 2 + h.val % 2 = h.val; omega)
  have ex : ∀ j : Fin 96, (⟨h.val / 2 * 192 + h.val % 2 * 96 + j.val, by omega⟩ : Fin 960) = ⟨96 * h.val + j.val, by omega⟩ :=
    fun j => Fin.ext (by show h.val / 2 * 192 + h.val % 2 * 96 + j.val = 96 * h.val + j.val; omega)
  have hw : ∀ q, masked (m (c, Proc.tc.devRef main_arg3)) (m (c, Proc.tc.devRef main_arg6))
      (ix4 B q (⟨h.val / 2, by omega⟩ : Fin 5) (⟨h.val % 2, by omega⟩ : Fin 2))
        = sAt (m (c, Proc.tc.devRef main_arg6) (ix1 B)) (fun q => m (c, Proc.tc.devRef main_arg3) (ix3 h B q)) q := by
    intro q
    rw [masked_at]
    dsimp only
    rw [eh]
  have hn : fresh (m (c, Proc.tc.devRef main_arg0)) (m (c, Proc.tc.devRef main_arg1)) (ix3 B (⟨h.val / 2, by omega⟩ : Fin 5) (⟨h.val % 2, by omega⟩ : Fin 2))
      = sNew (fun j => m (c, Proc.tc.devRef main_arg0) (ix3 B (0 : Fin 1) (⟨96 * h.val + j.val, by omega⟩ : Fin 960)))
          (fun j => m (c, Proc.tc.devRef main_arg1) (ix4 B (0 : Fin 1) (⟨h.val / 2, by omega⟩ : Fin 5) j)) := by
    rw [fresh_at]
    dsimp only
    simp only [ex]
  have hd := den_ne_zero (v := m (c, Proc.tc.devRef main_arg6) (ix1 B)) (fun q => hs (ix3 h B q))
    (sNew_real (fun j => hx (ix3 B (0 : Fin 1) (⟨96 * h.val + j.val, by omega⟩ : Fin 960))) (fun j => hk (ix4 B (0 : Fin 1) (⟨h.val / 2, by omega⟩ : Fin 5) j)))
  unfold expected
  rw [spread_at]
  refine (heads_at _ _ B _ _ hw hn hd _ _ _).trans ?_
  unfold result tail
  refine congrArg₂ (· + ·) (Finset.sum_congr rfl fun q _ => ?_) ?_
  · rw [dequant_at]
    unfold product weight
    rw [← ek]
  · unfold weightNew
    rw [← ek]

end Cert.ValuesIdeal.Own

namespace Cert.Proof.ValuesClaims

theorem fits_of_finite (m : (ℓ : Loc Cert.ValuesIdeal.nD Cert.ValuesIdeal.τ Cert.ValuesIdeal.sig) → Buf (Elt Ideal) ℓ)
    (h : Cert.Pre_ValuesIdeal_finite m) : Cert.Pre_ValuesIdeal m :=
  fun c => Cert.ValuesIdeal.Own.fits_of_read (Cert.ValuesIdeal.Own.read_finite (h c)).1

theorem frame_pi_finite : Cert.quiescent_ValuesIdeal_pre_finite := fun m g h => frame_pi m g (fits_of_finite m h)

theorem frame_ri_finite : Cert.quiescent_ValuesRefIdeal_pre_finite := fun m g _ => frame_ri m g trivial

/-- The columns compared are those of the head's own key-value head. -/
theorem own_columns (h : Fin 16) (a : Fin 480) (e : IntOp.cmpi .eq (BitVec.ofNat 32 (h.val / 2)) (BitVec.ofNat 32 (a.val / 96)) = 1#1) :
    h.val / 2 = a.val / 96 := by
  have e2 : BitVec.ofNat 32 (h.val / 2) = BitVec.ofNat 32 (a.val / 96) := IntOp.cmpi_eq.1 e
  have e3 := congrArg BitVec.toNat e2
  rw [BitVec.toNat_ofNat, BitVec.toNat_ofNat] at e3
  omega

set_option maxHeartbeats 4000000 in
theorem algebraic : Cert.algebraic_ValuesIdeal_ValuesRefIdeal_on_kept_pre_finite := by
  intro m g m' g' hpre hagree
  obtain ⟨v, hval, hrun⟩ := Cert.ValuesIdeal.Own.run_value m g (fits_of_finite m hpre)
  refine ⟨v, (θ_run _ _ _).mono (fun r h c => ⟨fun i _ => congrFun (h c).1 i, (h c).2⟩) hrun, ?_⟩
  clear hrun
  hlo_run
  intro i hi
  obtain ⟨h0, h1, h2, h3, h4, h5, h6⟩ := hagree c
  rw [h4, h5, h6]
  clear h0 h1 h2 h3 h4 h5 h6 hagree
  simp -implicitDefEqProofs only [StableHlo.TRef.toBuf, StableHlo.TRef.ofBuf, cast_cast, cast_eq]
  idx_vars i
  pointwise [Cert.On_kept.fn] at hi
  have e := own_columns _ _ hi
  refine Eq.trans ?_ ((Cert.ValuesIdeal.Own.expected_at m hpre c i0 ⟨i1.val, by omega⟩ i2 e).trans (hval c i0 ⟨i1.val, by omega⟩ i2).symm)
  rfl

end Cert.Proof.ValuesClaims

end
-- ==== Proof.lean ====
module

public import proofs.«01_k».proof.Defs
public import proofs.«01_k».proof.Proof.Gen.Values
public import proofs.«01_k».proof.Proof.Gen.ValuesIdeal
public import proofs.«01_k».proof.Proof.Gen.ValuesRefIdeal
public import proofs.«01_k».proof.Proof.Gen.Pre_fits
public import proofs.«01_k».proof.Proof.Gen.On_kept
public import proofs.«01_k».proof.Proof.Claims
public import proofs.«01_k».proof.Proof.ValuesAlgebraic
public import Idealize.ShloMosaic.Adequacy
public import Idealize.ShloMosaic.Init

@[expose] public section

noncomputable section

namespace Cert.Proof

open Idealize.ShloMosaic Idealize.SL.Sem

theorem claim : Cert.Claim :=
  ⟨Cert.Values.Gen.facts, Cert.ValuesIdeal.Gen.facts, Cert.ValuesRefIdeal.Gen.facts, Cert.Pre_fits.Gen.facts,
    Cert.Pre_finite.Own.facts, Cert.On_kept.Gen.facts, ValuesClaims.frame_p, ValuesClaims.frame_pi, ValuesClaims.frame_pi_finite,
    ValuesClaims.frame_ri, ValuesClaims.frame_ri_finite, ValuesClaims.preserves, ValuesClaims.algebraic⟩

end Cert.Proof

end
